-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_as_set_up [hPre_as_set_up : Cert.Pre_as_set_up.Facts] (m : (ℓ : Loc Cert.KernelIdeal.nD Cert.KernelIdeal.τ Cert.KernelIdeal.sig) → Buf (Elt Ideal) ℓ) : Prop :=
  ∀ c : Dev Cert.KernelIdeal.nD,
    (Cert.Pre_as_set_up.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_as_set_up.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_as_set_up.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_as_set_up.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_as_set_up.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_as_set_up.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_as_set_up [hPre_as_set_up : Cert.Pre_as_set_up.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_as_set_up.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_as_set_up.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_as_set_up.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_as_set_up.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_as_set_up.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_as_set_up.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def Pre_Affine (m : (ℓ : Loc Cert.Affine.nD Cert.Affine.τ Cert.Affine.sig) → Buf (Elt Bits) ℓ) : Prop :=
  True

def Pre_AffineIdeal (m : (ℓ : Loc Cert.AffineIdeal.nD Cert.AffineIdeal.τ Cert.AffineIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_as_set_up [hKernelIdeal : Cert.KernelIdeal.Facts] [hPre_as_set_up : Cert.Pre_as_set_up.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_as_set_up m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_as_set_up [hReferenceIdeal : Cert.ReferenceIdeal.Facts] [hPre_as_set_up : Cert.Pre_as_set_up.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_as_set_up m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Affine [hAffine : Cert.Affine.Facts] : Prop :=
  ∀ (m : (ℓ : Loc Cert.Affine.nD Cert.Affine.τ Cert.Affine.sig) → Buf (Elt Bits) ℓ) (g : Dev Cert.Affine.nD → PrngReg), Pre_Affine m →
    θ_run (Cert.Affine.defs (F := Bits)) (onTc (τ := Cert.Affine.τ) (Cert.Affine.main (F := Bits))) ⟨m, fun _ => 0, g⟩ (fun r => (∀ c : Dev Cert.Affine.nD,
      r.2.mem ((c.tc : Thread Cert.Affine.nD Cert.Affine.τ).loc Cert.Affine.main_arg0) = m ((c.tc : Thread Cert.Affine.nD Cert.Affine.τ).loc Cert.Affine.main_arg0)
      ∧ r.2.mem ((c.tc : Thread Cert.Affine.nD Cert.Affine.τ).loc Cert.Affine.main_arg1) = m ((c.tc : Thread Cert.Affine.nD Cert.Affine.τ).loc Cert.Affine.main_arg1)
      ∧ r.2.mem ((c.tc : Thread Cert.Affine.nD Cert.Affine.τ).loc Cert.Affine.main_arg2) = m ((c.tc : Thread Cert.Affine.nD Cert.Affine.τ).loc Cert.Affine.main_arg2)
      ∧ r.2.mem ((c.tc : Thread Cert.Affine.nD Cert.Affine.τ).loc Cert.Affine.main_arg3) = m ((c.tc : Thread Cert.Affine.nD Cert.Affine.τ).loc Cert.Affine.main_arg3)
      ∧ r.2.mem ((c.tc : Thread Cert.Affine.nD Cert.Affine.τ).loc Cert.Affine.main_arg4) = m ((c.tc : Thread Cert.Affine.nD Cert.Affine.τ).loc Cert.Affine.main_arg4)
      ∧ r.2.mem ((c.tc : Thread Cert.Affine.nD Cert.Affine.τ).loc Cert.Affine.main_arg5) = m ((c.tc : Thread Cert.Affine.nD Cert.Affine.τ).loc Cert.Affine.main_arg5))
      ∧ r.2.sem = fun _ => 0)

def quiescent_AffineIdeal [hAffineIdeal : Cert.AffineIdeal.Facts] : Prop :=
  ∀ (m : (ℓ : Loc Cert.AffineIdeal.nD Cert.AffineIdeal.τ Cert.AffineIdeal.sig) → Buf (Elt Ideal) ℓ) (g : Dev Cert.AffineIdeal.nD → PrngReg), Pre_AffineIdeal m →
    θ_run (Cert.AffineIdeal.defs (F := Ideal)) (onTc (τ := Cert.AffineIdeal.τ) (Cert.AffineIdeal.main (F := Ideal))) ⟨m, fun _ => 0, g⟩ (fun r => (∀ c : Dev Cert.AffineIdeal.nD,
      r.2.mem ((c.tc : Thread Cert.AffineIdeal.nD Cert.AffineIdeal.τ).loc Cert.AffineIdeal.main_arg0) = m ((c.tc : Thread Cert.AffineIdeal.nD Cert.AffineIdeal.τ).loc Cert.AffineIdeal.main_arg0)
      ∧ r.2.mem ((c.tc : Thread Cert.AffineIdeal.nD Cert.AffineIdeal.τ).loc Cert.AffineIdeal.main_arg1) = m ((c.tc : Thread Cert.AffineIdeal.nD Cert.AffineIdeal.τ).loc Cert.AffineIdeal.main_arg1)
      ∧ r.2.mem ((c.tc : Thread Cert.AffineIdeal.nD Cert.AffineIdeal.τ).loc Cert.AffineIdeal.main_arg2) = m ((c.tc : Thread Cert.AffineIdeal.nD Cert.AffineIdeal.τ).loc Cert.AffineIdeal.main_arg2)
      ∧ r.2.mem ((c.tc : Thread Cert.AffineIdeal.nD Cert.AffineIdeal.τ).loc Cert.AffineIdeal.main_arg3) = m ((c.tc : Thread Cert.AffineIdeal.nD Cert.AffineIdeal.τ).loc Cert.AffineIdeal.main_arg3)
      ∧ r.2.mem ((c.tc : Thread Cert.AffineIdeal.nD Cert.AffineIdeal.τ).loc Cert.AffineIdeal.main_arg4) = m ((c.tc : Thread Cert.AffineIdeal.nD Cert.AffineIdeal.τ).loc Cert.AffineIdeal.main_arg4)
      ∧ r.2.mem ((c.tc : Thread Cert.AffineIdeal.nD Cert.AffineIdeal.τ).loc Cert.AffineIdeal.main_arg5) = m ((c.tc : Thread Cert.AffineIdeal.nD Cert.AffineIdeal.τ).loc Cert.AffineIdeal.main_arg5))
      ∧ r.2.sem = fun _ => 0)

def preserves_Kernel_KernelIdeal : Prop :=
  True

def algebraic_KernelIdeal_ReferenceIdeal_pre_as_set_up [hKernelIdeal : Cert.KernelIdeal.Facts] [hReferenceIdeal : Cert.ReferenceIdeal.Facts] [hPre_as_set_up : Cert.Pre_as_set_up.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_as_set_up m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Affine_AffineIdeal : Prop :=
  True

def algebraic_AffineIdeal_ReferenceIdeal [hAffineIdeal : Cert.AffineIdeal.Facts] [hReferenceIdeal : Cert.ReferenceIdeal.Facts] : Prop :=
  ∀ (m : (ℓ : Loc Cert.AffineIdeal.nD Cert.AffineIdeal.τ Cert.AffineIdeal.sig) → Buf (Elt Ideal) ℓ) (g : Dev Cert.AffineIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_AffineIdeal m →
    (∀ c : Dev Cert.AffineIdeal.nD,
      m' ((c.tc : Thread Cert.ReferenceIdeal.nD Cert.ReferenceIdeal.τ).loc Cert.ReferenceIdeal.main_arg0) = m ((c.tc : Thread Cert.AffineIdeal.nD Cert.AffineIdeal.τ).loc Cert.AffineIdeal.main_arg0)
      ∧ m' ((c.tc : Thread Cert.ReferenceIdeal.nD Cert.ReferenceIdeal.τ).loc Cert.ReferenceIdeal.main_arg1) = m ((c.tc : Thread Cert.AffineIdeal.nD Cert.AffineIdeal.τ).loc Cert.AffineIdeal.main_arg1)
      ∧ m' ((c.tc : Thread Cert.ReferenceIdeal.nD Cert.ReferenceIdeal.τ).loc Cert.ReferenceIdeal.main_arg2) = m ((c.tc : Thread Cert.AffineIdeal.nD Cert.AffineIdeal.τ).loc Cert.AffineIdeal.main_arg2)
      ∧ m' ((c.tc : Thread Cert.ReferenceIdeal.nD Cert.ReferenceIdeal.τ).loc Cert.ReferenceIdeal.main_arg3) = m ((c.tc : Thread Cert.AffineIdeal.nD Cert.AffineIdeal.τ).loc Cert.AffineIdeal.main_arg3)
      ∧ m' ((c.tc : Thread Cert.ReferenceIdeal.nD Cert.ReferenceIdeal.τ).loc Cert.ReferenceIdeal.main_arg4) = m ((c.tc : Thread Cert.AffineIdeal.nD Cert.AffineIdeal.τ).loc Cert.AffineIdeal.main_arg4)
      ∧ m' ((c.tc : Thread Cert.ReferenceIdeal.nD Cert.ReferenceIdeal.τ).loc Cert.ReferenceIdeal.main_arg5) = m ((c.tc : Thread Cert.AffineIdeal.nD Cert.AffineIdeal.τ).loc Cert.AffineIdeal.main_arg5)) →
    ∃ (v0 : (c : Dev Cert.AffineIdeal.nD) → Buf (Elt Ideal) ((c.tc : Thread Cert.AffineIdeal.nD Cert.AffineIdeal.τ).loc Cert.AffineIdeal.main_v0)),
      θ_run (Cert.AffineIdeal.defs (F := Ideal)) (onTc (τ := Cert.AffineIdeal.τ) (Cert.AffineIdeal.main (F := Ideal))) ⟨m, fun _ => 0, g⟩ (fun r => ∀ c : Dev Cert.AffineIdeal.nD,
          r.2.mem ((c.tc : Thread Cert.AffineIdeal.nD Cert.AffineIdeal.τ).loc Cert.AffineIdeal.main_v0) = v0 c
          ∧ r.2.mem ((c.tc : Thread Cert.AffineIdeal.nD Cert.AffineIdeal.τ).loc Cert.AffineIdeal.main_arg0) = m ((c.tc : Thread Cert.AffineIdeal.nD Cert.AffineIdeal.τ).loc Cert.AffineIdeal.main_arg0)
          ∧ r.2.mem ((c.tc : Thread Cert.AffineIdeal.nD Cert.AffineIdeal.τ).loc Cert.AffineIdeal.main_arg1) = m ((c.tc : Thread Cert.AffineIdeal.nD Cert.AffineIdeal.τ).loc Cert.AffineIdeal.main_arg1)
          ∧ r.2.mem ((c.tc : Thread Cert.AffineIdeal.nD Cert.AffineIdeal.τ).loc Cert.AffineIdeal.main_arg2) = m ((c.tc : Thread Cert.AffineIdeal.nD Cert.AffineIdeal.τ).loc Cert.AffineIdeal.main_arg2)
          ∧ r.2.mem ((c.tc : Thread Cert.AffineIdeal.nD Cert.AffineIdeal.τ).loc Cert.AffineIdeal.main_arg3) = m ((c.tc : Thread Cert.AffineIdeal.nD Cert.AffineIdeal.τ).loc Cert.AffineIdeal.main_arg3)
          ∧ r.2.mem ((c.tc : Thread Cert.AffineIdeal.nD Cert.AffineIdeal.τ).loc Cert.AffineIdeal.main_arg4) = m ((c.tc : Thread Cert.AffineIdeal.nD Cert.AffineIdeal.τ).loc Cert.AffineIdeal.main_arg4)
          ∧ r.2.mem ((c.tc : Thread Cert.AffineIdeal.nD Cert.AffineIdeal.τ).loc Cert.AffineIdeal.main_arg5) = m ((c.tc : Thread Cert.AffineIdeal.nD Cert.AffineIdeal.τ).loc Cert.AffineIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hAffine : Cert.Affine.Facts) (hAffineIdeal : Cert.AffineIdeal.Facts) (hPre_as_set_up : Cert.Pre_as_set_up.Facts),
    quiescent_Kernel (hKernel := hKernel)
    ∧ quiescent_KernelIdeal (hKernelIdeal := hKernelIdeal)
    ∧ quiescent_KernelIdeal_pre_as_set_up (hKernelIdeal := hKernelIdeal) (hPre_as_set_up := hPre_as_set_up)
    ∧ quiescent_ReferenceIdeal (hReferenceIdeal := hReferenceIdeal)
    ∧ quiescent_ReferenceIdeal_pre_as_set_up (hReferenceIdeal := hReferenceIdeal) (hPre_as_set_up := hPre_as_set_up)
    ∧ quiescent_Affine (hAffine := hAffine)
    ∧ quiescent_AffineIdeal (hAffineIdeal := hAffineIdeal)
    ∧ preserves_Kernel_KernelIdeal
    ∧ algebraic_KernelIdeal_ReferenceIdeal_pre_as_set_up (hKernelIdeal := hKernelIdeal) (hReferenceIdeal := hReferenceIdeal) (hPre_as_set_up := hPre_as_set_up)
    ∧ preserves_Affine_AffineIdeal
    ∧ algebraic_AffineIdeal_ReferenceIdeal (hAffineIdeal := hAffineIdeal) (hReferenceIdeal := hReferenceIdeal)
-- ==== Pre_as_set_up.lean ====
abbrev S4x2048x128 : Shape := ⟨3, ![4, 2048, 128]⟩
abbrev S128x1024 : Shape := ⟨2, ![128, 1024]⟩
abbrev S1024 : Shape := ⟨1, ![1024]⟩
abbrev S2048x1024 : Shape := ⟨2, ![2048, 1024]⟩
abbrev S_ : Shape := ⟨0, ![]⟩

class Facts : Prop where
  bcast_S_S4x2048x128 : S_.BroadcastsInDim S4x2048x128 (![] : Fin 0 → Fin S4x2048x128.rank)
  bcast_S_S128x1024 : S_.BroadcastsInDim S128x1024 (![] : Fin 0 → Fin S128x1024.rank)
  bcast_S_S1024 : S_.BroadcastsInDim S1024 (![] : Fin 0 → Fin S1024.rank)
  bcast_S_S2048x1024 : S_.BroadcastsInDim S2048x1024 (![] : Fin 0 → Fin S2048x1024.rank)

variable [Facts]

def fn {F : FTy → Type} [FloatOps F] (main_arg0 : FVec F S4x2048x128 .f32) (main_arg1 : FVec F S128x1024 .f32) (main_arg2 : FVec F S1024 .f32) (main_arg3 : FVec F S2048x1024 .f32) (main_arg4 : FVec F S1024 .f32) (main_arg5 : FVec F S1024 .f32) : IVec S4x2048x128 1 × IVec S128x1024 1 × IVec S1024 1 × IVec S2048x1024 1 × IVec S1024 1 × IVec S1024 1 :=
  let main_v0 : FVec F S4x2048x128 .f32 := Host.absf main_arg0
  let main_cst : FVec F S_ .f32 := constant S_ .f32 0x7F800000#32
  let main_v1 : FVec F S4x2048x128 .f32 := broadcastInDim S4x2048x128 ![] bcast_S_S4x2048x128 main_cst
  let main_v2 : IVec S4x2048x128 1 := cmpf .olt main_v0 main_v1
  let main_v3 : FVec F S128x1024 .f32 := Host.absf main_arg1
  let main_cst_0 : FVec F S_ .f32 := constant S_ .f32 0x7F800000#32
  let main_v4 : FVec F S128x1024 .f32 := broadcastInDim S128x1024 ![] bcast_S_S128x1024 main_cst_0
  let main_v5 : IVec S128x1024 1 := cmpf .olt main_v3 main_v4
  let main_cst_1 : FVec F S_ .f32 := constant S_ .f32 0x00000000#32
  let main_v6 : FVec F S1024 .f32 := broadcastInDim S1024 ![] bcast_S_S1024 main_cst_1
  let main_v7 : IVec S1024 1 := cmpf .oeq main_arg2 main_v6
  let main_v8 : FVec F S2048x1024 .f32 := Host.absf main_arg3
  let main_cst_2 : FVec F S_ .f32 := constant S_ .f32 0x7F800000#32
  let main_v9 : FVec F S2048x1024 .f32 := broadcastInDim S2048x1024 ![] bcast_S_S2048x1024 main_cst_2
  let main_v10 : IVec S2048x1024 1 := cmpf .olt main_v8 main_v9
  let main_cst_3 : FVec F S_ .f32 := constant S_ .f32 0x3F800000#32
  let main_v11 : FVec F S1024 .f32 := broadcastInDim S1024 ![] bcast_S_S1024 main_cst_3
  let main_v12 : IVec S1024 1 := cmpf .oeq main_arg4 main_v11
  let main_cst_4 : FVec F S_ .f32 := constant S_ .f32 0x00000000#32
  let main_v13 : FVec F S1024 .f32 := broadcastInDim S1024 ![] bcast_S_S1024 main_cst_4
  let main_v14 : IVec S1024 1 := cmpf .oeq main_arg5 main_v13
  (main_v2, main_v5, main_v7, main_v10, main_v12, main_v14)
-- ==== Kernel.lean ====
abbrev S4x2048x128 : Shape := ⟨3, ![4, 2048, 128]⟩
abbrev S128x1024 : Shape := ⟨2, ![128, 1024]⟩
abbrev S1024 : Shape := ⟨1, ![1024]⟩
abbrev S2048x1024 : Shape := ⟨2, ![2048, 1024]⟩
abbrev S4x2048x1024 : Shape := ⟨3, ![4, 2048, 1024]⟩
abbrev S1x2048x128 : Shape := ⟨3, ![1, 2048, 128]⟩
abbrev S1x2048x1024 : Shape := ⟨3, ![1, 2048, 1024]⟩
abbrev S2048x128 : Shape := ⟨2, ![2048, 128]⟩
abbrev S2048 : Shape := ⟨1, ![2048]⟩
abbrev S2048x1 : Shape := ⟨2, ![2048, 1]⟩

abbrev nBuf : Space → Nat
  | .hbm => 7
  | .vmem => 6
  | .smem => 0
  | _ => 0

abbrev bufTy : (tb : Table) → Fin (tcTables nBuf tb) → BufTy
  | .hbm, ⟨0, _⟩ => ⟨S4x2048x128, .f32⟩
  | .hbm, ⟨1, _⟩ => ⟨S128x1024, .f32⟩
  | .hbm, ⟨2, _⟩ => ⟨S1024, .f32⟩
  | .hbm, ⟨3, _⟩ => ⟨S2048x1024, .f32⟩
  | .hbm, ⟨4, _⟩ => ⟨S1024, .f32⟩
  | .hbm, ⟨5, _⟩ => ⟨S1024, .f32⟩
  | .hbm, ⟨6, _⟩ => ⟨S4x2048x1024, .f32⟩
  | .local _ .vmem, ⟨0, _⟩ => ⟨S1x2048x128, .f32⟩
  | .local _ .vmem, ⟨1, _⟩ => ⟨S1x2048x128, .f32⟩
  | .local _ .vmem, ⟨2, _⟩ => ⟨S128x1024, .f32⟩
  | .local _ .vmem, ⟨3, _⟩ => ⟨S2048x1024, .f32⟩
  | .local _ .vmem, ⟨4, _⟩ => ⟨S1x2048x1024, .f32⟩
  | .local _ .vmem, ⟨5, _⟩ => ⟨S1x2048x1024, .f32⟩
  | _, _ => ⟨S4x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S4x2048x128 : Shape := ⟨3, ![4, 2048, 128]⟩
abbrev S128x1024 : Shape := ⟨2, ![128, 1024]⟩
abbrev S1024 : Shape := ⟨1, ![1024]⟩
abbrev S2048x1024 : Shape := ⟨2, ![2048, 1024]⟩
abbrev S4x2048x1024 : Shape := ⟨3, ![4, 2048, 1024]⟩
abbrev S1x1x1024 : Shape := ⟨3, ![1, 1, 1024]⟩
abbrev S2048 : Shape := ⟨1, ![2048]⟩
abbrev S_ : Shape := ⟨0, ![]⟩
abbrev S2048x1 : Shape := ⟨2, ![2048, 1]⟩
abbrev S1 : Shape := ⟨1, ![1]⟩
abbrev S1x1 : Shape := ⟨2, ![1, 1]⟩
abbrev S1x2048x1024 : Shape := ⟨3, ![1, 2048, 1024]⟩
abbrev S4x2048 : Shape := ⟨2, ![4, 2048]⟩
abbrev S4x2048x1 : Shape := ⟨3, ![4, 2048, 1]⟩

abbrev nBuf : Space → Nat
  | .hbm => 66
  | .vmem => 0
  | .smem => 0
  | _ => 0

abbrev bufTy : (tb : Table) → Fin (tcTables nBuf tb) → BufTy
  | .hbm, ⟨0, _⟩ => ⟨S4x2048x128, .f32⟩
  | .hbm, ⟨1, _⟩ => ⟨S128x1024, .f32⟩
  | .hbm, ⟨2, _⟩ => ⟨S1024, .f32⟩
  | .hbm, ⟨3, _⟩ => ⟨S2048x1024, .f32⟩
  | .hbm, ⟨4, _⟩ => ⟨S1024, .f32⟩
  | .hbm, ⟨5, _⟩ => ⟨S1024, .f32⟩
  | .hbm, ⟨6, _⟩ => ⟨S4x2048x1024, .f32⟩
  | .hbm, ⟨7, _⟩ => ⟨S1x1x1024, .f32⟩
  | .hbm, ⟨8, _⟩ => ⟨S4x2048x1024, .f32⟩
  | .hbm, ⟨9, _⟩ => ⟨S4x2048x1024, .f32⟩
  | .hbm, ⟨10, _⟩ => ⟨S2048, .i32⟩
  | .hbm, ⟨11, _⟩ => ⟨S_, .i32⟩
  | .hbm, ⟨12, _⟩ => ⟨S2048, .i32⟩
  | .hbm, ⟨13, _⟩ => ⟨S2048, .i1⟩
  | .hbm, ⟨14, _⟩ => ⟨S_, .i32⟩
  | .hbm, ⟨15, _⟩ => ⟨S2048, .i32⟩
  | .hbm, ⟨16, _⟩ => ⟨S2048, .i32⟩
  | .hbm, ⟨17, _⟩ => ⟨S2048, .i32⟩
  | .hbm, ⟨18, _⟩ => ⟨S2048x1, .i32⟩
  | .hbm, ⟨19, _⟩ => ⟨S1, .i32⟩
  | .hbm, ⟨20, _⟩ => ⟨S_, .i32⟩
  | .hbm, ⟨21, _⟩ => ⟨S2048x1, .i32⟩
  | .hbm, ⟨22, _⟩ => ⟨S2048x1, .i1⟩
  | .hbm, ⟨23, _⟩ => ⟨S1x1, .i32⟩
  | .hbm, ⟨24, _⟩ => ⟨S2048x1, .i32⟩
  | .hbm, ⟨25, _⟩ => ⟨S2048x1, .i1⟩
  | .hbm, ⟨26, _⟩ => ⟨S2048x1, .i1⟩
  | .hbm, ⟨27, _⟩ => ⟨S_, .i1⟩
  | .hbm, ⟨28, _⟩ => ⟨S2048, .i1⟩
  | .hbm, ⟨29, _⟩ => ⟨S2048x1024, .f32⟩
  | .hbm, ⟨30, _⟩ => ⟨S2048x1024, .i1⟩
  | .hbm, ⟨31, _⟩ => ⟨S_, .f32⟩
  | .hbm, ⟨32, _⟩ => ⟨S2048x1024, .f32⟩
  | .hbm, ⟨33, _⟩ => ⟨S2048x1024, .f32⟩
  | .hbm, ⟨34, _⟩ => ⟨S1x2048x1024, .f32⟩
  | .hbm, ⟨35, _⟩ => ⟨S4x2048x1024, .f32⟩
  | .hbm, ⟨36, _⟩ => ⟨S4x2048x1024, .f32⟩
  | .hbm, ⟨37, _⟩ => ⟨S_, .f32⟩
  | .hbm, ⟨38, _⟩ => ⟨S4x2048, .f32⟩
  | .hbm, ⟨39, _⟩ => ⟨S4x2048x1, .f32⟩
  | .hbm, ⟨40, _⟩ => ⟨S_, .f32⟩
  | .hbm, ⟨41, _⟩ => ⟨S4x2048x1, .f32⟩
  | .hbm, ⟨42, _⟩ => ⟨S4x2048x1, .f32⟩
  | .hbm, ⟨43, _⟩ => ⟨S4x2048x1024, .f32⟩
  | .hbm, ⟨44, _⟩ => ⟨S4x2048x1024, .f32⟩
  | .hbm, ⟨45, _⟩ => ⟨S4x2048x1024, .f32⟩
  | .hbm, ⟨46, _⟩ => ⟨S_, .f32⟩
  | .hbm, ⟨47, _⟩ => ⟨S4x2048, .f32⟩
  | .hbm, ⟨48, _⟩ => ⟨S4x2048x1, .f32⟩
  | .hbm, ⟨49, _⟩ => ⟨S_, .f32⟩
  | .hbm, ⟨50, _⟩ => ⟨S4x2048x1, .f32⟩
  | .hbm, ⟨51, _⟩ => ⟨S4x2048x1, .f32⟩
  | .hbm, ⟨52, _⟩ => ⟨S4x2048x1024, .f32⟩
  | .hbm, ⟨53, _⟩ => ⟨S4x2048x1024, .f32⟩
  | .hbm, ⟨54, _⟩ => ⟨S_, .f32⟩
  | .hbm, ⟨55, _⟩ => ⟨S4x2048x1, .f32⟩
  | .hbm, ⟨56, _⟩ => ⟨S4x2048x1, .f32⟩
  | .hbm, ⟨57, _⟩ => ⟨S4x2048x1, .f32⟩
  | .hbm, ⟨58, _⟩ => ⟨S4x2048x1024, .f32⟩
  | .hbm, ⟨59, _⟩ => ⟨S4x2048x1024, .f32⟩
  | .hbm, ⟨60, _⟩ => ⟨S1x1x1024, .f32⟩
  | .hbm, ⟨61, _⟩ => ⟨S4x2048x1024, .f32⟩
  | .hbm, ⟨62, _⟩ => ⟨S4x2048x1024, .f32⟩
  | .hbm, ⟨63, _⟩ => ⟨S1x1x1024, .f32⟩
  | .hbm, ⟨64, _⟩ => ⟨S4x2048x1024, .f32⟩
  | .hbm, ⟨65, _⟩ => ⟨S4x2048x1024, .f32⟩
  | _, _ => ⟨S4x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_cst : Ref sig .tc := ⟨.hbm, 31, rfl⟩
abbrev main_call0_v15 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_cst : Ref sig .tc := ⟨.hbm, 37, rfl⟩
abbrev main_v9 : Ref sig .tc := ⟨.hbm, 38, rfl⟩
abbrev main_v10 : Ref sig .tc := ⟨.hbm, 39, rfl⟩
abbrev main_cst_0 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_cst_1 : Ref sig .tc := ⟨.hbm, 46, rfl⟩
abbrev main_v16 : Ref sig .tc := ⟨.hbm, 47, rfl⟩
abbrev main_v17 : Ref sig .tc := ⟨.hbm, 48, rfl⟩
abbrev main_cst_2 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_cst_3 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩

abbrev nD : Nat := 1
abbrev τ : Topo := Topo.v7x

variable {F : FTy → Type} [FloatOps F]
-- ==== Affine.lean ====
abbrev S4x2048x128 : Shape := ⟨3, ![4, 2048, 128]⟩
abbrev S128x1024 : Shape := ⟨2, ![128, 1024]⟩
abbrev S1024 : Shape := ⟨1, ![1024]⟩
abbrev S2048x1024 : Shape := ⟨2, ![2048, 1024]⟩
abbrev S1x1024 : Shape := ⟨2, ![1, 1024]⟩
abbrev S4x2048x1024 : Shape := ⟨3, ![4, 2048, 1024]⟩
abbrev S1x1024x128 : Shape := ⟨3, ![1, 1024, 128]⟩
abbrev S1024x1024 : Shape := ⟨2, ![1024, 1024]⟩
abbrev S1x1024x1024 : Shape := ⟨3, ![1, 1024, 1024]⟩
abbrev S1024x128 : Shape := ⟨2, ![1024, 128]⟩
abbrev S1024x1 : Shape := ⟨2, ![1024, 1]⟩

abbrev nBuf : Space → Nat
  | .hbm => 10
  | .vmem => 10
  | .smem => 0
  | _ => 0

abbrev bufTy : (tb : Table) → Fin (tcTables nBuf tb) → BufTy
  | .hbm, ⟨0, _⟩ => ⟨S4x2048x128, .f32⟩
  | .hbm, ⟨1, _⟩ => ⟨S128x1024, .f32⟩
  | .hbm, ⟨2, _⟩ => ⟨S1024, .f32⟩
  | .hbm, ⟨3, _⟩ => ⟨S2048x1024, .f32⟩
  | .hbm, ⟨4, _⟩ => ⟨S1024, .f32⟩
  | .hbm, ⟨5, _⟩ => ⟨S1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S4x2048x1024, .f32⟩
  | .local _ .vmem, ⟨0, _⟩ => ⟨S1x1024x128, .f32⟩
  | .local _ .vmem, ⟨1, _⟩ => ⟨S1x1024x128, .f32⟩
  | .local _ .vmem, ⟨2, _⟩ => ⟨S128x1024, .f32⟩
  | .local _ .vmem, ⟨3, _⟩ => ⟨S1x1024, .f32⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1x1024, .f32⟩
  | .local _ .vmem, ⟨8, _⟩ => ⟨S1x1024x1024, .f32⟩
  | .local _ .vmem, ⟨9, _⟩ => ⟨S1x1024x1024, .f32⟩
  | _, _ => ⟨S4x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Proof.RowNorm.lean ====
/-
  Layer normalization of one row of 1024 extended reals, on its own: no program is mentioned here.

  `normal` is the textbook form — subtract the mean, divide by the square root of the mean squared deviation plus a
  small positive number — in the order in which the reference writes it. The kernel multiplies by a reciprocal square
  root and reads mean and variance off two sums, Σ y and Σ y², of one pass; `onePass_eq_normal` says that this is the
  same for a row of real numbers. For a row with an infinite entry it is not: the kernel's variance there is ∞ - ∞.
  The other kernel makes two passes, as the textbook does, and differs in the reciprocal square root alone;
  `twoPass_eq_affine` says that this is the same on all extended reals.
-/
module

public import Idealize.ShloMosaic.PureOps.Ideal
public import Idealize.ShloMosaic.PureOps.Ideal.Laws

@[expose] public section

noncomputable section

namespace Cert.RowNorm

open Idealize.ShloMosaic

/-! ## The literals -/

/-- The row length, as the reference divides by it. -/
def len : EReal := Ideal.ofBits .f32 0x44800000#32

/-- The reciprocal of the row length, as the kernel multiplies by it. -/
def lenInv : EReal := Ideal.ofBits .f32 0x3A800000#32

/-- The number added to the variance: the single-precision number nearest to 10⁻¹². -/
def eps : EReal := Ideal.ofBits .f32 0x2B8CBCCC#32

/-- The divisor is 1024. -/
theorem len_eq : len = ((1024 : ℝ) : EReal) := by
  unfold len
  simp [Ideal.ofBits, Ideal.ieee, -EReal.coe_mul]; norm_num

/-- The factor is exactly 1/1024: a power of two loses nothing. -/
theorem lenInv_eq : lenInv = ((1 / 1024 : ℝ) : EReal) := by
  unfold lenInv
  simp [Ideal.ofBits, Ideal.ieee, -EReal.coe_mul]; norm_num

/-- The number added to the variance is a positive real. -/
theorem eps_pos : ∃ e : ℝ, 0 < e ∧ eps = (e : EReal) := by
  unfold eps
  simp [Ideal.ofBits, Ideal.ieee, -EReal.coe_mul]

/-! ## The textbook form -/

/-- The mean of a row. -/
def mean (y : Fin 1024 → EReal) : EReal := Ideal.div (∑ k, y k) len

/-- The mean squared deviation of a row from its mean. -/
def var (y : Fin 1024 → EReal) : EReal := Ideal.div (∑ k, (y k - mean y) * (y k - mean y)) len

/-- Entry `j` of the normalized row. -/
def normal (y : Fin 1024 → EReal) (j : Fin 1024) : EReal :=
  Ideal.div (y j - mean y) (Ideal.sqrt (var y + eps))

/-- Normalize, scale entry by entry and shift entry by entry. -/
def affine (y g b : Fin 1024 → EReal) (j : Fin 1024) : EReal := normal y j * g j + b j

/-- A gain of one and an offset of zero leave the normalized row as it is. -/
theorem affine_trivial (y g b : Fin 1024 → EReal) (j : Fin 1024) (hg : g j = 1) (hb : b j = 0) :
    affine y g b j = normal y j := by
  rw [affine, hg, hb, mul_one, add_zero]

/-! ## The kernel's form: two sums of one pass -/

/-- The mean, from the sum. -/
def mean₁ (y : Fin 1024 → EReal) : EReal := (∑ k, y k) * lenInv

/-- The reciprocal square root of the variance, from the sum and the sum of squares. -/
def inv₁ (y : Fin 1024 → EReal) : EReal :=
  Ideal.rsqrt ((∑ k, y k * y k) * lenInv - mean₁ y * mean₁ y + eps)

/-- Entry `j` of the row as the one-pass kernel normalizes it. -/
def onePass (y : Fin 1024 → EReal) (j : Fin 1024) : EReal := y j * inv₁ y - mean₁ y * inv₁ y

/-- Multiplying by the reciprocal square root of a positive number is dividing by its square root, also at infinity. -/
theorem mul_rsqrt (x : EReal) {w : EReal} (hw : 0 < w) : x * Ideal.rsqrt w = Ideal.div x (Ideal.sqrt w) := by
  induction w with
  | bot => exact absurd hw (by simp)
  | top => simp [Ideal.div]
  | coe r =>
    have hr : 0 < r := EReal.coe_pos.mp hw
    have hs : Real.sqrt r ≠ 0 := (Real.sqrt_pos.mpr hr).ne'
    simp only [Ideal.rsqrt_coe, Ideal.sqrt_coe, if_neg hr.not_gt, if_neg hr.ne']
    rw [Ideal.div_coe hs, one_div]

/-- Dividing a real by the row length multiplies it by 1/1024. -/
theorem div_len (x : EReal) : Ideal.div x len = x * ((1 / 1024 : ℝ) : EReal) := by
  rw [len_eq, Ideal.div_coe (by norm_num)]

/-- The sum of a family of reals, taken among the extended reals, is their sum. -/
theorem sum_coe (r : Fin 1024 → ℝ) : ∑ k, (r k : EReal) = ((∑ k, r k : ℝ) : EReal) := by
  have h : ∀ s : Finset (Fin 1024), ∑ k ∈ s, (r k : EReal) = ((∑ k ∈ s, r k : ℝ) : EReal) := fun s => by
    induction s using Finset.cons_induction with
    | empty => simp
    | cons a s ha ih => rw [Finset.sum_cons, Finset.sum_cons, ih, EReal.coe_add]
  exact h Finset.univ

/-- The variance identity: the mean squared deviation is the mean square less the square of the mean. -/
theorem variance (r : Fin 1024 → ℝ) :
    (∑ k, (r k - (∑ i, r i) * (1 / 1024)) * (r k - (∑ i, r i) * (1 / 1024))) * (1 / 1024)
      = (∑ k, r k * r k) * (1 / 1024) - (∑ i, r i) * (1 / 1024) * ((∑ i, r i) * (1 / 1024)) := by
  generalize hS : (∑ i, r i) = S
  have e : ∀ k, (r k - S * (1 / 1024)) * (r k - S * (1 / 1024)) = r k * r k - 2 * (S * (1 / 1024)) * r k + S * (1 / 1024) * (S * (1 / 1024)) :=
    fun k => by ring
  simp only [e, Finset.sum_add_distrib, Finset.sum_sub_distrib, ← Finset.mul_sum, hS, Finset.sum_const,
    Finset.card_univ, Fintype.card_fin, nsmul_eq_mul]
  push_cast
  ring

/-- On a row of reals the one-pass form is the textbook form. -/
theorem onePass_eq_normal (y : Fin 1024 → EReal) (hy : ∀ k, ∃ r : ℝ, y k = r) (j : Fin 1024) :
    onePass y j = normal y j := by
  choose r hr using hy
  obtain ⟨e, he, hee⟩ := eps_pos
  obtain rfl : y = fun k => (r k : EReal) := funext hr
  have hm : mean (fun k => (r k : EReal)) = ((∑ i, r i) * (1 / 1024) : ℝ) := by
    rw [mean, div_len, sum_coe, ← EReal.coe_mul]
  have hm₁ : mean₁ (fun k => (r k : EReal)) = ((∑ i, r i) * (1 / 1024) : ℝ) := by
    rw [mean₁, lenInv_eq, sum_coe, ← EReal.coe_mul]
  have hv : var (fun k => (r k : EReal)) + eps = ((∑ k, r k * r k) * (1 / 1024) - (∑ i, r i) * (1 / 1024) * ((∑ i, r i) * (1 / 1024)) + e : ℝ) := by
    simp only [var, div_len, hm, ← EReal.coe_sub, ← EReal.coe_mul, sum_coe, hee, ← EReal.coe_add, variance]
  have hv₁ : (∑ k, (r k : EReal) * (r k : EReal)) * lenInv - mean₁ (fun k => (r k : EReal)) * mean₁ (fun k => (r k : EReal)) + eps
      = ((∑ k, r k * r k) * (1 / 1024) - (∑ i, r i) * (1 / 1024) * ((∑ i, r i) * (1 / 1024)) + e : ℝ) := by
    simp only [hm₁, lenInv_eq, ← EReal.coe_sub, ← EReal.coe_mul, sum_coe, hee, ← EReal.coe_add]
  have hpos : 0 < (∑ k, r k * r k) * (1 / 1024) - (∑ i, r i) * (1 / 1024) * ((∑ i, r i) * (1 / 1024)) + e := by
    rw [← variance]
    exact add_pos_of_nonneg_of_pos (mul_nonneg (Finset.sum_nonneg fun k _ => mul_self_nonneg _) (by norm_num)) he
  generalize (∑ k, r k * r k) * (1 / 1024) - (∑ i, r i) * (1 / 1024) * ((∑ i, r i) * (1 / 1024)) + e = w at hv hv₁ hpos
  have hi : inv₁ (fun k => (r k : EReal)) = ((Real.sqrt w)⁻¹ : ℝ) := by
    rw [inv₁, hv₁]
    simp only [Ideal.rsqrt_coe, if_neg hpos.not_gt, if_neg hpos.ne']
  rw [normal, hv, ← mul_rsqrt _ (EReal.coe_pos.mpr hpos), hm, onePass, hi, hm₁]
  simp only [Ideal.rsqrt_coe, if_neg hpos.not_gt, if_neg hpos.ne', ← EReal.coe_sub, ← EReal.coe_mul]
  rw [sub_mul]

/-! ## The kernel that makes two passes over the row -/

/-- Entry `j` of the row as the two-pass kernel normalizes, scales and shifts it. -/
def twoPass (y g b : Fin 1024 → EReal) (j : Fin 1024) : EReal :=
  (y j - mean y) * Ideal.rsqrt (var y + eps) * g j + b j

/-- The square of an extended real is not negative. -/
theorem sq_nonneg (x : EReal) : 0 ≤ x * x := by
  induction x with
  | bot => simp
  | top => simp
  | coe r => exact_mod_cast mul_self_nonneg r

/-- The variance with the small number added is positive, whatever the row holds. -/
theorem var_eps_pos (y : Fin 1024 → EReal) : 0 < var y + eps := by
  obtain ⟨e, he, hee⟩ := eps_pos
  have h : 0 ≤ var y := by
    rw [var, div_len]
    exact mul_nonneg (Finset.sum_nonneg fun k _ => sq_nonneg _) (by exact_mod_cast (by norm_num : (0 : ℝ) ≤ 1 / 1024))
  rw [hee]
  exact lt_of_lt_of_le (by exact_mod_cast he) (le_add_of_nonneg_left h)

/-- The two-pass kernel's row is the textbook one, on all extended reals. -/
theorem twoPass_eq_affine (y g b : Fin 1024 → EReal) (j : Fin 1024) : twoPass y g b j = affine y g b j := by
  rw [twoPass, affine, normal, mul_rsqrt _ (var_eps_pos y)]

end Cert.RowNorm

end
-- ==== Proof.Rows.lean ====
/-
  The row that is normalized, as a function of the argument arrays: entry `h` of the row of batch `i` and position `s`
  is the product of the input row with column `h` of the weights, plus the bias, plus the position's vector.
-/
module

public import proofs.«01_k».proof.Proof.RowNorm
public import Idealize.ShloMosaic.Lib.ValueIdx

@[expose] public section

noncomputable section

namespace Cert.Rows

open Idealize.ShloMosaic Idealize.ShloMosaic.ValueIdx

/-- An array of the given shape over the extended reals. -/
abbrev Arr (s : Shape) : Type := s.Idx → EReal

/-- The projected row before the position's vector: no bias yet. -/
def dot (x : Arr ⟨3, ![4, 2048, 128]⟩) (W : Arr ⟨2, ![128, 1024]⟩) (i : Fin 4) (s : Fin 2048) (h : Fin 1024) : EReal :=
  ∑ k : Fin 128, x (ix3 i s k) * W (ix2 k h)

/-- The row with bias and position, added in the reference's order. -/
def row (x : Arr ⟨3, ![4, 2048, 128]⟩) (W : Arr ⟨2, ![128, 1024]⟩) (b : Arr ⟨1, ![1024]⟩) (p : Arr ⟨2, ![2048, 1024]⟩)
    (i : Fin 4) (s : Fin 2048) (h : Fin 1024) : EReal :=
  dot x W i s h + b (ix1 h) + p (ix2 s h)

/-- The whole result: every row normalized, scaled and shifted. -/
def result (x : Arr ⟨3, ![4, 2048, 128]⟩) (W : Arr ⟨2, ![128, 1024]⟩) (b : Arr ⟨1, ![1024]⟩) (p : Arr ⟨2, ![2048, 1024]⟩)
    (g o : Arr ⟨1, ![1024]⟩) : Arr ⟨3, ![4, 2048, 1024]⟩ :=
  fun j => RowNorm.affine (row x W b p (j 0) (j 1)) (fun h => g (ix1 h)) (fun h => o (ix1 h)) (j 2)

end Cert.Rows

end
-- ==== Proof.RefValue.lean ====
/-
  What the reference computes, index by index.

  Its position rows come from `jnp.take` along the first axis at the positions 0 … 2047, which prints as a gather under a
  mask of the positions in range; every position is in range and position `s` reads row `s`, so the taken table is the
  table (`take_apply`). The rest is read stage by stage: the row, its mean, its variance, the result
  (`Cert.Rows.result`).
-/
module

public import proofs.«01_k».proof.Proof.Gen.ReferenceIdeal.Read
public import proofs.«01_k».proof.Proof.Rows
public import Idealize.ShloMosaic.Lib.Routing.Ops
public import Idealize.ShloMosaic.Lib.StableHlo.Predicate

@[expose] public section

noncomputable section

namespace Cert.RefValue

open Cert.ReferenceIdeal Cert.ReferenceIdeal.Gen Cert.ReferenceIdeal.Read Cert.Rows
open Idealize.ShloMosaic Idealize.ShloMosaic.ValueIdx Idealize.ShloMosaic.StableHlo

/-! ## The position rows -/

/-- The position word of row `s` is not negative. -/
theorem not_neg (s : Fin 2048) : IntOp.cmpi .slt (BitVec.ofNat 32 s.val) 0#32 ≠ 1#1 := by
  have hs := s.isLt
  intro h
  have := (Predicate.slt_ofNat_iff s.val 0 (by omega) (by omega)).mp h
  omega

/-- The start index of row `s` is `s`: no negative index is there to be wrapped round. -/
theorem start_apply (s : Fin 2048) : val_main_call0_v5 (F := Ideal) (ix2 s (0 : Fin 1)) = BitVec.ofNat 32 s.val := by
  rw [val_main_call0_v5_apply, val_main_call0_v4_apply, val_main_call0_v1_apply, val_main_v4_apply,
    val_main_call0_v0_apply, val_main_call0_c_apply]
  exact if_neg (not_neg s)

/-- Every position is in range: at least 0 and at most 2047. -/
theorem inRange (i : S2048x1.Idx) : val_main_call0_v11 (F := Ideal) i = 1#1 := by
  obtain ⟨s, u, rfl⟩ : ∃ (s : Fin 2048) (u : Fin 1), i = ix2 s u := ⟨_, _, eq_ix2 i⟩
  obtain rfl : u = 0 := Subsingleton.elim _ _
  have hs := s.isLt
  rw [val_main_call0_v11_apply, val_main_call0_v7_apply, val_main_call0_v10_apply, start_apply, val_main_call0_v6_apply,
    val_main_call0_c_2_apply, val_main_call0_v9_apply, val_main_call0_v8_apply, val_main_call0_c_1_apply]
  have h1 : IntOp.cmpi .sge (BitVec.ofNat 32 s.val) 0#32 = 1#1 :=
    (Predicate.sle_ofNat_iff 0 s.val (by omega) (by omega)).mpr (by omega)
  have h2 : IntOp.cmpi .sle (BitVec.ofNat 32 s.val) 2047#32 = 1#1 :=
    (Predicate.sle_ofNat_iff s.val 2047 (by omega) (by omega)).mpr (by omega)
  rw [h1, h2]
  rfl

/-- A conjunction of bits that are all set is set, however many there are. -/
theorem foldl_and {ι : Type} (l : List ι) : l.foldl (fun r _ => IntOp.andi r 1#1) 1#1 = 1#1 := by
  induction l with
  | nil => rfl
  | cons a l ih => exact ih

/-- The mask over the rows is set everywhere. -/
theorem mask_apply (i : S2048.Idx) : val_main_call0_v12 (F := Ideal) i = 1#1 := by
  have e : val_main_call0_v11 (F := Ideal) = fun _ => 1#1 := funext inRange
  unfold val_main_call0_v12
  rw [e]
  exact foldl_and _

/-- The table taken at the positions 0 … 2047 is the table. -/
theorem take_apply (p : Arr ⟨2, ![2048, 1024]⟩) (s : Fin 2048) (h : Fin 1024) :
    val_main_v5 (F := Ideal) p (ix2 s h) = p (ix2 s h) := by
  rw [val_main_v5_apply, val_main_call0_v14_apply, mask_apply]
  exact Routing.gather_row gather_S2048x1024_S2048x1_S2048x1024_1_0_n_n_0_1_11024 rfl rfl rfl rfl rfl p
    (val_main_call0_v5 (F := Ideal)) s h s (start_apply s) (by norm_num)

/-! ## The row and its statistics -/

section
variable (x : Arr ⟨3, ![4, 2048, 128]⟩) (W : Arr ⟨2, ![128, 1024]⟩) (b : Arr ⟨1, ![1024]⟩) (p : Arr ⟨2, ![2048, 1024]⟩)
  (g o : Arr ⟨1, ![1024]⟩)

/-- The row before normalization. -/
theorem row_apply (i : Fin 4) (s : Fin 2048) (h : Fin 1024) :
    val_main_v8 (F := Ideal) x W b p (ix3 i s h) = row x W b p i s h := by
  rw [val_main_v8_apply, val_main_v3_apply, val_main_v0_apply, val_main_v2_apply, val_main_v1_apply, val_main_v7_apply,
    val_main_v6_apply]
  have e0 : ∀ k, lidx_main_v0 (ix3 i s h) k = ix3 i s k := fun k => by funext a; fin_cases a <;> rfl
  have e1 : ∀ k, ridx_main_v0 (ix3 i s h) k = ix2 k h := fun k => by funext a; fin_cases a <;> rfl
  have e2 : idx_main_v1 (idx_main_v2 (ix3 i s h)) = ix1 h := by funext a; fin_cases a; rfl
  have e3 : idx_main_v6 (idx_main_v7 (ix3 i s h)) = ix2 s h := by funext a; fin_cases a <;> rfl
  simp only [e0, e1, e2, e3, take_apply]
  rfl

/-- The mean of a row. -/
theorem mean_apply (i : Fin 4) (s : Fin 2048) (u : Fin 1) :
    val_main_v12 (F := Ideal) x W b p (ix3 i s u) = RowNorm.mean (row x W b p i s) := by
  rw [val_main_v12_apply, val_main_v10_apply, val_main_v9_apply, val_main_v11_apply, val_main_cst_0_apply, val_main_cst_apply]
  have e : ∀ k, idx_main_v9 (idx_main_v10 (ix3 i s u)) k = ix3 i s k := fun k => by funext a; fin_cases a <;> rfl
  simp only [e, row_apply, Ideal.ofBits_def, Ideal.ofBits_zero_f32, zero_add, Ideal.hostDivf_def]
  rfl

/-- The variance of a row. -/
theorem var_apply (i : Fin 4) (s : Fin 2048) (u : Fin 1) :
    val_main_v19 (F := Ideal) x W b p (ix3 i s u) = RowNorm.var (row x W b p i s) := by
  rw [val_main_v19_apply, val_main_v17_apply, val_main_v16_apply, val_main_v18_apply, val_main_cst_2_apply, val_main_cst_1_apply]
  have e : ∀ k, idx_main_v16 (idx_main_v17 (ix3 i s u)) k = ix3 i s k := fun k => by funext a; fin_cases a <;> rfl
  have e' : ∀ k : Fin 1024, idx_main_v13 (ix3 i s k) = ix3 i s (0 : Fin 1) := fun k => by funext a; fin_cases a <;> rfl
  simp only [e, e', val_main_v15_apply, val_main_v14_apply, val_main_v13_apply, row_apply, mean_apply, Ideal.ofBits_def,
    Ideal.ofBits_zero_f32, zero_add, Ideal.hostDivf_def]
  rfl

/-- The reference's result is the rows normalized, scaled and shifted. -/
theorem result_eq : val_main_v32 (F := Ideal) x W b p g o = result x W b p g o := by
  funext j
  obtain ⟨i, s, h, rfl⟩ : ∃ (i : Fin 4) (s : Fin 2048) (h : Fin 1024), j = ix3 i s h := ⟨_, _, _, eq_ix3 j⟩
  rw [val_main_v32_apply, val_main_v29_apply, val_main_v26_apply, val_main_v21_apply, val_main_v20_apply, val_main_v25_apply,
    val_main_v24_apply, val_main_v23_apply, val_main_v22_apply, val_main_cst_3_apply, val_main_v28_apply, val_main_v27_apply,
    val_main_v31_apply, val_main_v30_apply]
  have e1 : idx_main_v20 (ix3 i s h) = ix3 i s (0 : Fin 1) := by funext a; fin_cases a <;> rfl
  have e2 : idx_main_v25 (ix3 i s h) = ix3 i s (0 : Fin 1) := by funext a; fin_cases a <;> rfl
  have e3 : idx_main_v27 (idx_main_v28 (ix3 i s h)) = ix1 h := by funext a; fin_cases a; rfl
  have e4 : idx_main_v30 (idx_main_v31 (ix3 i s h)) = ix1 h := by funext a; fin_cases a; rfl
  rw [e1, e2, e3, e4, row_apply, mean_apply, var_apply]
  rfl

end

end Cert.RefValue

end
-- ==== Proof.RowOps.lean ====
/-
  The operations of the kernels' blocks at an index, for a block of any number `n` of rows of 1024 lanes: the product of
  the rows with the weights, a row's sum, a column laid along the lanes, a row laid along the rows.
-/
module

public import Idealize.ShloMosaic.Lib.MatmulPlain
public import Idealize.ShloMosaic.Lib.ValueLayout
public import Idealize.ShloMosaic.Lib.ValueLayoutCasts
public import Idealize.ShloMosaic.Lib.Pipeline.Value
public import Idealize.ShloMosaic.PureOps.Ideal

@[expose] public section

noncomputable section

namespace Cert.RowOps

open Idealize.ShloMosaic Idealize.ShloMosaic.ValueIdx

variable {n : ℕ}

/-- The block's product at `(s, h)`: row `s` of the left factor times column `h` of the weights. -/
theorem product {φ₁ φ₂ : FTy} (l : FVec Ideal ⟨2, ![n, 128]⟩ φ₁) (r : FVec Ideal ⟨2, ![128, 1024]⟩ φ₂) (s : Fin n) (h : Fin 1024) :
    matmul (DotDims.plain n 128 1024) none l r (constant (F := Ideal) ⟨2, ![n, 1024]⟩ .f32 0x00000000#32) (ix2 s h)
      = ∑ k : Fin 128, (l (ix2 s k) : EReal) * r (ix2 k h) :=
  (Ideal.matmul_plain_apply none l r _ s h).trans
    ((congrArg (fun z : EReal => z + ∑ k : Fin 128, (l (ix2 s k) : EReal) * r (ix2 k h)) Ideal.ofBits_zero_f32).trans (zero_add _))

/-- A row's sum over its 1024 lanes. -/
theorem rowSum (v : FVec Ideal ⟨2, ![n, 1024]⟩ .f32) (hr : (⟨2, ![n, 1024]⟩ : Shape).Reduces [1] ⟨1, ![n]⟩) (hφ : FKind.Formats .f32)
    (hacc : (0x00000000#32 : BitVec 32) = FKind.add.neutral .f32 hφ) (s : Fin n) :
    multiReduction .add [1] ⟨1, ![n]⟩ v 0x00000000#32 hr hφ hacc (ix1 s) = ∑ k : Fin 1024, (v (ix2 s k) : EReal) := by
  refine (Ideal.multiReduction_add_single v _ hr hφ hacc (ix1 s)).trans ?_
  refine Finset.sum_congr rfl fun k _ => congrArg v (funext fun a => Fin.ext ?_)
  match a with
  | ⟨0, _⟩ => rfl
  | ⟨1, _⟩ => rfl

/-- A column laid along the lanes reads the column's entry at every lane. -/
theorem column (v : FVec Ideal ⟨2, ![n, 1]⟩ .f32) (hb : (⟨2, ![n, 1]⟩ : Shape).Broadcasts ⟨2, ![n, 1024]⟩) (s : Fin n) (h : Fin 1024) :
    broadcastTo ⟨2, ![n, 1024]⟩ v hb (ix2 s h) = v (ix2 s (0 : Fin 1)) :=
  broadcastTo_apply v hb _ _ fun a => match a with
    | ⟨0, _⟩ => by
      show s.val = if n = 1 then 0 else s.val
      split
      · have := s.isLt; omega
      · rfl
    | ⟨1, _⟩ => rfl

end Cert.RowOps

end
-- ==== Proof.Block.lean ====
/-
  What one grid point of the kernel stores, index by index: the block's rows of projection plus position, each
  normalized from its two sums.
-/
module

public import proofs.«01_k».proof.Proof.Gen.KernelIdeal.Skeleton
public import proofs.«01_k».proof.Proof.Rows
public import proofs.«01_k».proof.Proof.RowOps

@[expose] public section

noncomputable section

namespace Cert.Block

open Cert.KernelIdeal Cert.KernelIdeal.Gen Cert.Rows
open Idealize.ShloMosaic Idealize.ShloMosaic.ValueIdx

/-! ## The normalization of a block of rows -/

/-- Per row, the sum scaled by the reciprocal of the length, as a column. -/
def colMean (v : FVec Ideal S2048x1024 .f32) : FVec Ideal S2048x1 .f32 :=
  mulf (shapeCast S2048x1 (multiReduction .add [1] S2048 v 0x00000000#32 reduces_S2048x1024_S2048 (.inl rfl) rfl) shapeCasts_S2048_S2048x1)
    (broadcast S2048x1 (Scalar.ofBits .f32 0x3A800000#32))

/-- Per row, the reciprocal square root of mean square less squared mean plus the small number, as a column. -/
def colInv (v : FVec Ideal S2048x1024 .f32) : FVec Ideal S2048x1 .f32 :=
  rsqrt (addf (subf (colMean (mulf v v)) (mulf (colMean v) (colMean v))) (broadcast S2048x1 (Scalar.ofBits .f32 0x2B8CBCCC#32)))

/-- Every row scaled and shifted by what its column entries say. -/
def normed (v : FVec Ideal S2048x1024 .f32) : FVec Ideal S2048x1024 .f32 :=
  subf (mulf v (broadcastTo S2048x1024 (colInv v) broadcasts_S2048x1_S2048x1024))
    (broadcastTo S2048x1024 (mulf (colMean v) (colInv v)) broadcasts_S2048x1_S2048x1024)

/-- The scaled sum at row `s`. -/
theorem colMean_apply (v : FVec Ideal S2048x1024 .f32) (s : Fin 2048) :
    colMean v (ix2 s (0 : Fin 1)) = (∑ k : Fin 1024, (v (ix2 s k) : EReal)) * RowNorm.lenInv :=
  congrArg (· * RowNorm.lenInv) ((shapeCast_a_a1_apply _ _ s 0).trans (RowOps.rowSum v _ (.inl rfl) rfl s))

/-- The reciprocal square root at row `s`. -/
theorem colInv_apply (v : FVec Ideal S2048x1024 .f32) (s : Fin 2048) :
    colInv v (ix2 s (0 : Fin 1)) = RowNorm.inv₁ fun k => v (ix2 s k) := by
  show Ideal.rsqrt ((colMean (mulf v v) (ix2 s (0 : Fin 1)) : EReal)
    - colMean v (ix2 s (0 : Fin 1)) * colMean v (ix2 s (0 : Fin 1)) + RowNorm.eps) = _
  rw [colMean_apply, colMean_apply]
  rfl

/-- Entry `h` of row `s` is that of the row normalized from its two sums. -/
theorem normed_apply (v : FVec Ideal S2048x1024 .f32) (s : Fin 2048) (h : Fin 1024) :
    normed v (ix2 s h) = RowNorm.onePass (fun k => v (ix2 s k)) h := by
  show (v (ix2 s h) : EReal) * broadcastTo S2048x1024 (colInv v) broadcasts_S2048x1_S2048x1024 (ix2 s h)
    - broadcastTo S2048x1024 (mulf (colMean v) (colInv v)) broadcasts_S2048x1_S2048x1024 (ix2 s h) = _
  rw [RowOps.column, RowOps.column]
  show (v (ix2 s h) : EReal) * colInv v (ix2 s (0 : Fin 1)) - colMean v (ix2 s (0 : Fin 1)) * colInv v (ix2 s (0 : Fin 1)) = _
  rw [colMean_apply, colInv_apply]
  rfl

/-! ## The stored block -/

section
variable (W : Arr ⟨2, ![128, 1024]⟩) (x : Arr ⟨3, ![1, 2048, 128]⟩) (p : Arr ⟨2, ![2048, 1024]⟩)

/-- Row `s` of the block before normalization. -/
def row (s : Fin 2048) (h : Fin 1024) : EReal := (∑ k : Fin 128, x (ix3 (0 : Fin 1) s k) * W (ix2 k h)) + p (ix2 s h)

/-- The block's projection plus position, as the kernel computes it. -/
def sumOf : FVec Ideal S2048x1024 .f32 :=
  addf (matmul dot_S2048x128_S128x1024_S2048x1024_1_0_0_1_n_n none
    (truncf .bf16 (shapeCast S2048x128 x shapeCasts_S1x2048x128_S2048x128 : FVec Ideal S2048x128 .f32) bitsLt_bf16_f32)
    (truncf .bf16 (W : FVec Ideal S128x1024 .f32) bitsLt_bf16_f32) (constant S2048x1024 .f32 0x00000000#32)) p

/-- It is the row. -/
theorem sumOf_apply (s : Fin 2048) (h : Fin 1024) : sumOf W x p (ix2 s h) = row W x p s h := by
  refine congrArg (· + p (ix2 s h)) ((RowOps.product _ _ s h).trans (Finset.sum_congr rfl fun k _ => congrArg (· * W (ix2 k h)) ?_))
  exact shapeCast_1ab_ab_apply x _ s k

/-- The block a grid point stores is the normalization of that sum. -/
theorem pay_eq : k0_pay1 (F := Ideal) W x p
    = shapeCast S1x2048x1024 (normed (sumOf W x p)) shapeCasts_S2048x1024_S1x2048x1024 := rfl

/-- The stored block is each row normalized from its two sums. -/
theorem pay_apply (u : Fin 1) (s : Fin 2048) (h : Fin 1024) :
    k0_pay1 (F := Ideal) W x p (ix3 u s h) = RowNorm.onePass (row W x p s) h := by
  rw [pay_eq]
  refine (shapeCast_ab_1ab_apply _ _ u s h).trans ((normed_apply _ s h).trans ?_)
  simp only [sumOf_apply]

end

end Cert.Block

end
-- ==== Proof.KernelValue.lean ====
/-
  What the kernel leaves in its result array, index by index.

  The grid has one point per batch. Point `t` reads batch `t` of the input, all of the weights and all of the position
  table, and writes batch `t` of the result; the four batches are the whole array. So entry `(i, s, h)` of the result is
  entry `h` of row `s` of batch `i`, normalized from its two sums (`onePassRows`). Where the arguments are as the
  precondition says, that is the reference's result (`onePassRows_eq_result`).
-/
module

public import proofs.«01_k».proof.Proof.Gen.KernelIdeal.Value
public import proofs.«01_k».proof.Proof.Block

@[expose] public section

noncomputable section

namespace Cert.KernelValue

open Cert.KernelIdeal Cert.KernelIdeal.Gen Cert.Rows
open Idealize.ShloMosaic Idealize.ShloMosaic.TcCoe Idealize.ShloMosaic.ValueIdx Idealize.SL.Sem
open Idealize.ShloMosaic.Pipeline (Dat)

/-! ## The result as a function of the arguments -/

/-- Every row normalized from its two sums; no bias, no gain, no offset. -/
def onePassRows (x : Arr ⟨3, ![4, 2048, 128]⟩) (W : Arr ⟨2, ![128, 1024]⟩) (p : Arr ⟨2, ![2048, 1024]⟩) :
    Arr ⟨3, ![4, 2048, 1024]⟩ :=
  fun j => RowNorm.onePass (fun h => dot x W (j 0) (j 1) h + p (ix2 (j 1) h)) (j 2)

/-- A finite sum of products of reals is real. -/
theorem dot_real {x : Arr ⟨3, ![4, 2048, 128]⟩} {W : Arr ⟨2, ![128, 1024]⟩} (hx : ∀ i, ∃ r : ℝ, x i = r) (hW : ∀ i, ∃ r : ℝ, W i = r)
    (i : Fin 4) (s : Fin 2048) (h : Fin 1024) : ∃ r : ℝ, dot x W i s h = r := by
  choose rx hrx using hx
  choose rW hrW using hW
  refine ⟨∑ k : Fin 128, rx (ix3 i s k) * rW (ix2 k h), ?_⟩
  have e : ∀ S : Finset (Fin 128), ∑ k ∈ S, x (ix3 i s k) * W (ix2 k h) = ((∑ k ∈ S, rx (ix3 i s k) * rW (ix2 k h) : ℝ) : EReal) := fun S => by
    induction S using Finset.cons_induction with
    | empty => simp
    | cons a S ha ih => rw [Finset.sum_cons, Finset.sum_cons, ih, hrx, hrW, EReal.coe_add, EReal.coe_mul]
  exact e Finset.univ

/-- With finite inputs, weights and positions, no bias, a gain of one and no offset, this is the reference's result. -/
theorem onePassRows_eq_result {x : Arr ⟨3, ![4, 2048, 128]⟩} {W : Arr ⟨2, ![128, 1024]⟩} {b : Arr ⟨1, ![1024]⟩}
    {p : Arr ⟨2, ![2048, 1024]⟩} {g o : Arr ⟨1, ![1024]⟩} (hx : ∀ i, ∃ r : ℝ, x i = r) (hW : ∀ i, ∃ r : ℝ, W i = r)
    (hb : ∀ i, b i = 0) (hp : ∀ i, ∃ r : ℝ, p i = r) (hg : ∀ i, g i = 1) (ho : ∀ i, o i = 0) :
    onePassRows x W p = result x W b p g o := by
  funext j
  have e : (fun h => dot x W (j 0) (j 1) h + p (ix2 (j 1) h)) = row x W b p (j 0) (j 1) := funext fun h =>
    congrArg (· + p (ix2 (j 1) h)) ((add_zero _).symm.trans (congrArg (dot x W (j 0) (j 1) h + ·) (hb _).symm))
  refine Eq.trans (RowNorm.onePass_eq_normal _ (fun h => ?_) _)
    ((congrArg (fun y => RowNorm.normal y (j 2)) e).trans (RowNorm.affine_trivial _ _ _ _ (hg _) (ho _)).symm)
  obtain ⟨r, hr⟩ := dot_real hx hW (j 0) (j 1) h
  obtain ⟨q, hq⟩ := hp (ix2 (j 1) h)
  exact ⟨r + q, by rw [hr, hq, EReal.coe_add]⟩

/-! ## The grid's points -/

variable (m : (ℓ : Loc nD τ sig) → Buf (Elt Ideal) ℓ) (ρ : Dev nD → PrngReg)

/-- Which block each window takes at point `t`: the input and the result batch `t`, weights and positions everything. -/
theorem idx_facts : ∀ t : Fin cfg0.N,
    (win0_0.index t 0 = t.val ∧ win0_0.index t 1 = 0 ∧ win0_0.index t 2 = 0)
    ∧ (win0_1.index t 0 = 0 ∧ win0_1.index t 1 = 0)
    ∧ (win0_2.index t 0 = 0 ∧ win0_2.index t 1 = 0)
    ∧ (win0_3.index t 0 = t.val ∧ win0_3.index t 1 = 0 ∧ win0_3.index t 2 = 0) :=
  (by decide +kernel : ∀ t : Fin grid0.N, _)

/-- The batch of point `t`. -/
def batch (t : Fin cfg0.N) : Fin 4 := ⟨t.val, lt_of_lt_of_eq t.isLt N_0⟩

/-- The input's block at point `t` is batch `t`. -/
theorem block_x (c : Dev nD) (t : Fin cfg0.N) (u : Fin 1) (s : Fin 2048) (k : Fin 128) :
    iblk m c 0 t (ix3 u s k) = m ((c : Thread nD τ).loc main_arg0) (ix3 (batch t) s k) := by
  obtain ⟨⟨h0, h1, h2⟩, -⟩ := idx_facts t
  refine congrArg (m ((c : Thread nD τ).loc main_arg0)) (funext fun a => Fin.ext ?_)
  match a with
  | ⟨0, _⟩ => show win0_0.index t 0 * 1 + 1 * u.val = t.val; have := u.isLt; omega
  | ⟨1, _⟩ => show win0_0.index t 1 * 2048 + 1 * s.val = s.val; omega
  | ⟨2, _⟩ => show win0_0.index t 2 * 128 + 1 * k.val = k.val; omega

/-- The weights' block at every point is the weights. -/
theorem block_W (c : Dev nD) (t : Fin cfg0.N) : iblk m c 1 t = m ((c : Thread nD τ).loc main_arg1) := by
  obtain ⟨-, ⟨h0, h1⟩, -⟩ := idx_facts t
  refine funext fun i => congrArg (m ((c : Thread nD τ).loc main_arg1)) (funext fun a => Fin.ext ?_)
  match a with
  | ⟨0, _⟩ => show win0_1.index t 0 * 128 + 1 * (i 0).val = (i 0).val; omega
  | ⟨1, _⟩ => show win0_1.index t 1 * 1024 + 1 * (i 1).val = (i 1).val; omega

/-- The positions' block at every point is the position table. -/
theorem block_p (c : Dev nD) (t : Fin cfg0.N) : iblk m c 2 t = m ((c : Thread nD τ).loc main_arg3) := by
  obtain ⟨-, -, ⟨h0, h1⟩, -⟩ := idx_facts t
  refine funext fun i => congrArg (m ((c : Thread nD τ).loc main_arg3)) (funext fun a => Fin.ext ?_)
  match a with
  | ⟨0, _⟩ => show win0_2.index t 0 * 2048 + 1 * (i 0).val = (i 0).val; omega
  | ⟨1, _⟩ => show win0_2.index t 1 * 1024 + 1 * (i 1).val = (i 1).val; omega

/-- Device `c`'s result as one function of its arguments. -/
def G (c : Dev nD) : Arr ⟨3, ![4, 2048, 1024]⟩ :=
  onePassRows (m ((c : Thread nD τ).loc main_arg0)) (m ((c : Thread nD τ).loc main_arg1)) (m ((c : Thread nD τ).loc main_arg3))

theorem z3 : (![0, 0, 0] : Fin 3 → Nat) = fun _ => 0 := funext fun a => by fin_cases a <;> rfl
theorem z2 : (![0, 0] : Fin 2 → Nat) = fun _ => 0 := funext fun a => by fin_cases a <;> rfl

/-- What point `t` writes back is batch `t` of that function. -/
theorem flushed_eq (c : Dev nD) (t : Fin cfg0.N) :
    (dats m 0 c).flushed 3 t = ((cfg0.win 3).blk t).view.read (Elt Ideal) (G m c) := by
  rw [Value.flushed3]
  unfold out0_3
  rw [View.canon_unit_zero z3, View.ld_unit_zero z2, View.ld_unit_zero z3, View.ld_unit_zero z2, block_W, block_p]
  obtain ⟨-, -, -, ⟨h0, h1, h2⟩⟩ := idx_facts t
  funext j
  obtain ⟨u, s, h, rfl⟩ : ∃ (u : Fin 1) (s : Fin 2048) (h : Fin 1024), j = ix3 u s h := ⟨_, _, _, eq_ix3 j⟩
  refine (Block.pay_apply _ _ _ u s h).trans ?_
  have e : ((cfg0.win 3).blk t).view.read (Elt Ideal) (G m c) (ix3 u s h) = G m c (ix3 (batch t) s h) := by
    refine congrArg (G m c) (funext fun a => Fin.ext ?_)
    match a with
    | ⟨0, _⟩ => show win0_3.index t 0 * 1 + 1 * u.val = t.val; have := u.isLt; omega
    | ⟨1, _⟩ => show win0_3.index t 1 * 2048 + 1 * s.val = s.val; omega
    | ⟨2, _⟩ => show win0_3.index t 2 * 1024 + 1 * h.val = h.val; omega
  rw [e]
  show _ = RowNorm.onePass (fun h' => dot (m ((c : Thread nD τ).loc main_arg0)) (m ((c : Thread nD τ).loc main_arg1)) (batch t) s h'
    + m ((c : Thread nD τ).loc main_arg3) (ix2 s h')) h
  refine congrArg (fun y => RowNorm.onePass y h) (funext fun h' => ?_)
  exact congrArg (fun z : EReal => z + m ((c : Thread nD τ).loc main_arg3) (ix2 s h'))
    (Finset.sum_congr rfl fun k _ =>
      congrArg (fun z : EReal => z * m ((c : Thread nD τ).loc main_arg1) (ix2 k h')) (block_x m c t 0 s k))

/-- The blocks written back are the whole result. -/
theorem cover (i : S4x2048x1024.Idx) : ∃ t : Fin cfg0.N, (cfg0.win 3).flush t = true ∧ i ∈ ((cfg0.win 3).blk t).view.set := by
  have hi0 : (i 0 : Nat) < 4 := (i 0).isLt
  have hi1 : (i 1 : Nat) < 2048 := (i 1).isLt
  have hi2 : (i 2 : Nat) < 1024 := (i 2).isLt
  obtain ⟨t, ht⟩ : ∃ t : Fin cfg0.N, t.val = (i 0 : Nat) := ⟨⟨(i 0).val, lt_of_lt_of_eq hi0 N_0.symm⟩, rfl⟩
  refine ⟨t, flush0_3 t, ?_⟩
  show i ∈ ((View.whole main_v0).slice (win0_3.rect t)).set
  rw [View.set_slice_whole, Rect.mem_set_unit]
  obtain ⟨-, -, -, ⟨h0, h1, h2⟩⟩ := idx_facts t
  intro a
  match a with
  | ⟨0, _⟩ => show win0_3.index t 0 * 1 ≤ (i 0 : Nat) ∧ (i 0 : Nat) < win0_3.index t 0 * 1 + 1; omega
  | ⟨1, _⟩ => show win0_3.index t 1 * 2048 ≤ (i 1 : Nat) ∧ (i 1 : Nat) < win0_3.index t 1 * 2048 + 2048; omega
  | ⟨2, _⟩ => show win0_3.index t 2 * 1024 ≤ (i 2 : Nat) ∧ (i 2 : Nat) < win0_3.index t 2 * 1024 + 1024; omega

/-- So the result array ends holding it. -/
theorem final (c : Dev nD) : (dats m 0 c).arrAt 3 cfg0.N = G m c :=
  (dats m 0 c).arrAt_eq_of_cover 3 (G m c) (fun t _ => flushed_eq m c t) cover

end Cert.KernelValue

end
-- ==== Proof.AffineBlock.lean ====
/-
  What one grid point of the two-pass kernel stores, index by index: the block's rows of projection plus bias plus
  position, each normalized, scaled and shifted.
-/
module

public import proofs.«01_k».proof.Proof.Gen.AffineIdeal.Skeleton
public import proofs.«01_k».proof.Proof.Rows
public import proofs.«01_k».proof.Proof.RowOps

@[expose] public section

noncomputable section

namespace Cert.AffineBlock

open Cert.AffineIdeal Cert.AffineIdeal.Gen Cert.Rows
open Idealize.ShloMosaic
open Idealize.ShloMosaic.ValueIdx (ix1 ix2 ix3 shapeCast_a_a1_apply shapeCast_1ab_ab_apply shapeCast_ab_1ab_apply
  broadcastTo_1b_ab_apply)

/-! ## The normalization of a block of rows -/

/-- Per row, the sum divided by the length, as a column. -/
def colMean (v : FVec Ideal S1024x1024 .f32) : FVec Ideal S1024x1 .f32 :=
  divf (shapeCast S1024x1 (multiReduction .add [1] S1024 v 0x00000000#32 reduces_S1024x1024_S1024 (.inl rfl) rfl) shapeCasts_S1024_S1024x1)
    (broadcast S1024x1 (Scalar.ofBits .f32 0x44800000#32))

/-- Every entry less its row's mean. -/
def centered (v : FVec Ideal S1024x1024 .f32) : FVec Ideal S1024x1024 .f32 :=
  subf v (broadcastTo S1024x1024 (colMean v) broadcasts_S1024x1_S1024x1024)

/-- Every row's deviations times the reciprocal square root of their mean square plus the small number. -/
def normed (v : FVec Ideal S1024x1024 .f32) : FVec Ideal S1024x1024 .f32 :=
  mulf (centered v) (broadcastTo S1024x1024
    (rsqrt (addf (colMean (mulf (centered v) (centered v))) (broadcast S1024x1 (Scalar.ofBits .f32 0x2B8CBCCC#32))))
    broadcasts_S1024x1_S1024x1024)

/-- One row of numbers laid along all rows of the block. -/
def laid (g : FVec Ideal S1x1024 .f32) : FVec Ideal S1024x1024 .f32 :=
  broadcastTo S1024x1024 (shapeCast S1x1024 g shapeCasts_S1x1024_S1x1024) broadcasts_S1x1024_S1024x1024

/-- The quotient at row `s` is the row's mean. -/
theorem colMean_apply (v : FVec Ideal S1024x1024 .f32) (s : Fin 1024) :
    colMean v (ix2 s (0 : Fin 1)) = Ideal.div (∑ k : Fin 1024, (v (ix2 s k) : EReal)) RowNorm.len :=
  congrArg (fun z : EReal => Ideal.div z RowNorm.len) ((shapeCast_a_a1_apply _ _ s 0).trans (RowOps.rowSum v _ (.inl rfl) rfl s))

/-- The deviation from the mean at row `s`. -/
theorem centered_apply (v : FVec Ideal S1024x1024 .f32) (s : Fin 1024) (h : Fin 1024) :
    centered v (ix2 s h) = (v (ix2 s h) : EReal) - RowNorm.mean fun k => v (ix2 s k) :=
  congrArg (fun z : EReal => (v (ix2 s h) : EReal) - z) ((RowOps.column _ _ s h).trans (colMean_apply v s))

/-- The mean square of the deviations of row `s` is its variance. -/
theorem colVar_apply (v : FVec Ideal S1024x1024 .f32) (s : Fin 1024) :
    colMean (mulf (centered v) (centered v)) (ix2 s (0 : Fin 1)) = RowNorm.var fun k => v (ix2 s k) :=
  (colMean_apply _ s).trans (congrArg (fun z : EReal => Ideal.div z RowNorm.len) (Finset.sum_congr rfl fun k _ =>
    congrArg₂ (fun a b : EReal => a * b) (centered_apply v s k) (centered_apply v s k)))

/-- Entry `h` of row `s` before gain and offset. -/
theorem normed_apply (v : FVec Ideal S1024x1024 .f32) (s : Fin 1024) (h : Fin 1024) :
    normed v (ix2 s h) = ((v (ix2 s h) : EReal) - RowNorm.mean fun k => v (ix2 s k))
      * Ideal.rsqrt (RowNorm.var (fun k => v (ix2 s k)) + RowNorm.eps) :=
  congrArg₂ (fun a b : EReal => a * b) (centered_apply v s h) ((RowOps.column _ _ s h).trans
    (congrArg (fun z : EReal => Ideal.rsqrt (z + RowNorm.eps)) (colVar_apply v s)))

/-- A row laid along the block reads the row's entry. -/
theorem laid_apply (g : FVec Ideal S1x1024 .f32) (s : Fin 1024) (h : Fin 1024) : laid g (ix2 s h) = g (ix2 (0 : Fin 1) h) :=
  (broadcastTo_1b_ab_apply _ _ s h).trans (congrArg g (Shape.reshapeEquiv_self _ _))

/-! ## The stored block -/

section
variable (x : Arr ⟨3, ![1, 1024, 128]⟩) (W : Arr ⟨2, ![128, 1024]⟩) (b : Arr ⟨2, ![1, 1024]⟩) (p : Arr ⟨2, ![1024, 1024]⟩)
  (g o : Arr ⟨2, ![1, 1024]⟩)

/-- Row `s` of the block before normalization. -/
def row (s : Fin 1024) (h : Fin 1024) : EReal :=
  (∑ k : Fin 128, x (ix3 (0 : Fin 1) s k) * W (ix2 k h)) + b (ix2 (0 : Fin 1) h) + p (ix2 s h)

/-- The block's projection plus bias plus position, as the kernel computes it. -/
def sumOf : FVec Ideal S1024x1024 .f32 :=
  addf (addf (matmul (φ₁ := .f32) (φ₂ := .f32) dot_S1024x128_S128x1024_S1024x1024_1_0_0_1_n_n none
    (shapeCast S1024x128 x shapeCasts_S1x1024x128_S1024x128) W (constant S1024x1024 .f32 0x00000000#32)) (laid b)) p

/-- It is the row. -/
theorem sumOf_apply (s : Fin 1024) (h : Fin 1024) : sumOf x W b p (ix2 s h) = row x W b p s h :=
  congrArg₂ (fun y z : EReal => y + z + p (ix2 s h))
    ((RowOps.product _ _ s h).trans (Finset.sum_congr rfl fun k _ =>
      congrArg (fun z : EReal => z * W (ix2 k h)) (shapeCast_1ab_ab_apply x _ s k)))
    (laid_apply b s h)

/-- The block a grid point stores is the normalization of that sum, scaled and shifted. -/
theorem pay_eq : k0_pay1 (F := Ideal) (k0_pay2 x W b p g o)
    = shapeCast S1x1024x1024 (addf (mulf (normed (sumOf x W b p)) (laid g)) (laid o)) shapeCasts_S1024x1024_S1x1024x1024 := rfl

/-- The stored block is each row normalized, scaled and shifted. -/
theorem pay_apply (u : Fin 1) (s : Fin 1024) (h : Fin 1024) :
    k0_pay1 (F := Ideal) (k0_pay2 x W b p g o) (ix3 u s h)
      = RowNorm.twoPass (row x W b p s) (fun k => g (ix2 (0 : Fin 1) k)) (fun k => o (ix2 (0 : Fin 1) k)) h := by
  rw [pay_eq]
  refine (shapeCast_ab_1ab_apply _ _ u s h).trans ?_
  refine (congrArg₂ (fun y z : EReal => y + z) (congrArg₂ (fun y z : EReal => y * z) (normed_apply _ s h) (laid_apply g s h))
    (laid_apply o s h)).trans ?_
  simp only [sumOf_apply]
  rfl

end

end Cert.AffineBlock

end
-- ==== Proof.AffineValue.lean ====
/-
  What the two-pass kernel leaves in its result array, index by index.

  The grid has two halves of the positions by four batches. Point `t` takes half `t / 4` of the positions of batch
  `t % 4`, all of the weights, the bias, the gain and the offset, and that half of the position table; it writes the same
  half of the same batch of the result. The eight blocks are the whole array, and every row of it is the reference's:
  `final` has no condition on the arguments.
-/
module

public import proofs.«01_k».proof.Proof.Gen.AffineIdeal.Value
public import proofs.«01_k».proof.Proof.AffineBlock

@[expose] public section

noncomputable section

namespace Cert.AffineValue

open Cert.AffineIdeal Cert.AffineIdeal.Gen Cert.Rows
open Idealize.ShloMosaic Idealize.ShloMosaic.TcCoe Idealize.SL.Sem
open Idealize.ShloMosaic.ValueIdx (ix1 ix2 ix3 eq_ix3 shapeCast_a_1a_apply)
open Idealize.ShloMosaic.Pipeline (Dat)

variable (m : (ℓ : Loc nD τ sig) → Buf (Elt Ideal) ℓ) (ρ : Dev nD → PrngReg)

/-! ## The arrays when the kernel starts -/

/-- The bias as one row. -/
theorem V_b (c : Dev nD) : V m c main_call0_v0 = shapeCast S1x1024 (m ((c : Thread nD τ).loc main_arg2)) shapeCasts_S1024_S1x1024 := by
  show StableHlo.after hostOps0 _ (Proc.devRef .tc main_call0_v0) = _
  after_results
  rfl

/-- The gain as one row. -/
theorem V_g (c : Dev nD) : V m c main_call0_v1 = shapeCast S1x1024 (m ((c : Thread nD τ).loc main_arg4)) shapeCasts_S1024_S1x1024 := by
  show StableHlo.after hostOps0 _ (Proc.devRef .tc main_call0_v1) = _
  after_results
  rfl

/-- The offset as one row. -/
theorem V_o (c : Dev nD) : V m c main_call0_v2 = shapeCast S1x1024 (m ((c : Thread nD τ).loc main_arg5)) shapeCasts_S1024_S1x1024 := by
  show StableHlo.after hostOps0 _ (Proc.devRef .tc main_call0_v2) = _
  after_results
  rfl

/-! ## The grid's points -/

/-- Which block each window takes at point `t`: input and result half `t / 4` of batch `t % 4`, positions half `t / 4`,
    everything else whole. -/
theorem idx_facts : ∀ t : Fin cfg0.N,
    (win0_0.index t 0 = t.val % 4 ∧ win0_0.index t 1 = t.val / 4 ∧ win0_0.index t 2 = 0)
    ∧ (win0_1.index t 0 = 0 ∧ win0_1.index t 1 = 0)
    ∧ (win0_2.index t 0 = 0 ∧ win0_2.index t 1 = 0)
    ∧ (win0_3.index t 0 = t.val / 4 ∧ win0_3.index t 1 = 0)
    ∧ (win0_4.index t 0 = 0 ∧ win0_4.index t 1 = 0)
    ∧ (win0_5.index t 0 = 0 ∧ win0_5.index t 1 = 0)
    ∧ (win0_6.index t 0 = t.val % 4 ∧ win0_6.index t 1 = t.val / 4 ∧ win0_6.index t 2 = 0) :=
  (by decide +kernel : ∀ t : Fin grid0.N, _)

/-- The batch of point `t`. -/
def batch (t : Fin cfg0.N) : Fin 4 := ⟨t.val % 4, Nat.mod_lt _ (by decide)⟩

/-- Position `s` of point `t`'s half, among all positions. -/
def place (t : Fin cfg0.N) (s : Fin 1024) : Fin 2048 :=
  ⟨t.val / 4 * 1024 + s.val, by have : t.val < 8 := lt_of_lt_of_eq t.isLt N_0; have := s.isLt; omega⟩

/-- The input's block at point `t` is its half of its batch. -/
theorem block_x (c : Dev nD) (t : Fin cfg0.N) (u : Fin 1) (s : Fin 1024) (k : Fin 128) :
    iblk m c 0 t (ix3 u s k) = m ((c : Thread nD τ).loc main_arg0) (ix3 (batch t) (place t s) k) := by
  obtain ⟨⟨h0, h1, h2⟩, -⟩ := idx_facts t
  refine (congrFun (V_main_arg0 m c) _).trans (congrArg (m ((c : Thread nD τ).loc main_arg0)) (funext fun a => Fin.ext ?_))
  match a with
  | ⟨0, _⟩ => show win0_0.index t 0 * 1 + 1 * u.val = t.val % 4; have := u.isLt; omega
  | ⟨1, _⟩ => show win0_0.index t 1 * 1024 + 1 * s.val = t.val / 4 * 1024 + s.val; omega
  | ⟨2, _⟩ => show win0_0.index t 2 * 128 + 1 * k.val = k.val; omega

/-- The weights' block at every point is the weights. -/
theorem block_W (c : Dev nD) (t : Fin cfg0.N) : iblk m c 1 t = m ((c : Thread nD τ).loc main_arg1) := by
  obtain ⟨-, ⟨h0, h1⟩, -⟩ := idx_facts t
  refine funext fun i => (congrFun (V_main_arg1 m c) _).trans
    (congrArg (m ((c : Thread nD τ).loc main_arg1)) (funext fun a => Fin.ext ?_))
  match a with
  | ⟨0, _⟩ => show win0_1.index t 0 * 128 + 1 * (i 0).val = (i 0).val; omega
  | ⟨1, _⟩ => show win0_1.index t 1 * 1024 + 1 * (i 1).val = (i 1).val; omega

/-- The bias's block at every point is the bias. -/
theorem block_b (c : Dev nD) (t : Fin cfg0.N) (h : Fin 1024) :
    iblk m c 2 t (ix2 (0 : Fin 1) h) = m ((c : Thread nD τ).loc main_arg2) (ix1 h) := by
  obtain ⟨-, -, ⟨h0, h1⟩, -⟩ := idx_facts t
  refine (congrFun (V_b m c) _).trans (Eq.trans ?_ (shapeCast_a_1a_apply _ shapeCasts_S1024_S1x1024 (0 : Fin 1) h))
  refine congrArg (shapeCast S1x1024 (m ((c : Thread nD τ).loc main_arg2)) shapeCasts_S1024_S1x1024) (funext fun a => Fin.ext ?_)
  match a with
  | ⟨0, _⟩ => show win0_2.index t 0 * 1 + 1 * 0 = 0; omega
  | ⟨1, _⟩ => show win0_2.index t 1 * 1024 + 1 * h.val = h.val; omega

/-- The positions' block at point `t` is its half of the table. -/
theorem block_p (c : Dev nD) (t : Fin cfg0.N) (s h : Fin 1024) :
    iblk m c 3 t (ix2 s h) = m ((c : Thread nD τ).loc main_arg3) (ix2 (place t s) h) := by
  obtain ⟨-, -, -, ⟨h0, h1⟩, -⟩ := idx_facts t
  refine (congrFun (V_main_arg3 m c) _).trans (congrArg (m ((c : Thread nD τ).loc main_arg3)) (funext fun a => Fin.ext ?_))
  match a with
  | ⟨0, _⟩ => show win0_3.index t 0 * 1024 + 1 * s.val = t.val / 4 * 1024 + s.val; omega
  | ⟨1, _⟩ => show win0_3.index t 1 * 1024 + 1 * h.val = h.val; omega

/-- The gain's block at every point is the gain. -/
theorem block_g (c : Dev nD) (t : Fin cfg0.N) (h : Fin 1024) :
    iblk m c 4 t (ix2 (0 : Fin 1) h) = m ((c : Thread nD τ).loc main_arg4) (ix1 h) := by
  obtain ⟨-, -, -, -, ⟨h0, h1⟩, -⟩ := idx_facts t
  refine (congrFun (V_g m c) _).trans (Eq.trans ?_ (shapeCast_a_1a_apply _ shapeCasts_S1024_S1x1024 (0 : Fin 1) h))
  refine congrArg (shapeCast S1x1024 (m ((c : Thread nD τ).loc main_arg4)) shapeCasts_S1024_S1x1024) (funext fun a => Fin.ext ?_)
  match a with
  | ⟨0, _⟩ => show win0_4.index t 0 * 1 + 1 * 0 = 0; omega
  | ⟨1, _⟩ => show win0_4.index t 1 * 1024 + 1 * h.val = h.val; omega

/-- The offset's block at every point is the offset. -/
theorem block_o (c : Dev nD) (t : Fin cfg0.N) (h : Fin 1024) :
    iblk m c 5 t (ix2 (0 : Fin 1) h) = m ((c : Thread nD τ).loc main_arg5) (ix1 h) := by
  obtain ⟨-, -, -, -, -, ⟨h0, h1⟩, -⟩ := idx_facts t
  refine (congrFun (V_o m c) _).trans (Eq.trans ?_ (shapeCast_a_1a_apply _ shapeCasts_S1024_S1x1024 (0 : Fin 1) h))
  refine congrArg (shapeCast S1x1024 (m ((c : Thread nD τ).loc main_arg5)) shapeCasts_S1024_S1x1024) (funext fun a => Fin.ext ?_)
  match a with
  | ⟨0, _⟩ => show win0_5.index t 0 * 1 + 1 * 0 = 0; omega
  | ⟨1, _⟩ => show win0_5.index t 1 * 1024 + 1 * h.val = h.val; omega

/-! ## The result -/

/-- Device `c`'s result: the reference's function of its arguments. -/
def G (c : Dev nD) : Arr ⟨3, ![4, 2048, 1024]⟩ :=
  result (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

theorem z3 : (![0, 0, 0] : Fin 3 → Nat) = fun _ => 0 := funext fun a => by fin_cases a <;> rfl
theorem z2 : (![0, 0] : Fin 2 → Nat) = fun _ => 0 := funext fun a => by fin_cases a <;> rfl

/-- Row `s` of point `t`'s block is the row of its batch at its place. -/
theorem row_eq (c : Dev nD) (t : Fin cfg0.N) (s : Fin 1024) :
    AffineBlock.row (iblk m c 0 t) (iblk m c 1 t) (iblk m c 2 t) (iblk m c 3 t) s
      = row (m ((c : Thread nD τ).loc main_arg0)) (m ((c : Thread nD τ).loc main_arg1)) (m ((c : Thread nD τ).loc main_arg2))
          (m ((c : Thread nD τ).loc main_arg3)) (batch t) (place t s) := by
  rw [block_W]
  exact funext fun h => congrArg₂ (fun y z : EReal => y + z)
    (congrArg₂ (fun y z : EReal => y + z)
      (Finset.sum_congr rfl fun k _ =>
        congrArg (fun z : EReal => z * m ((c : Thread nD τ).loc main_arg1) (ix2 k h)) (block_x m c t 0 s k))
      (block_b m c t h))
    (block_p m c t s h)

/-- What point `t` writes back is its block of the result. -/
theorem flushed_eq (c : Dev nD) (t : Fin cfg0.N) :
    (dats m 0 c).flushed 6 t = ((cfg0.win 6).blk t).view.read (Elt Ideal) (G m c) := by
  rw [Value.flushed6]
  unfold out0_6
  rw [View.canon_unit_zero z3, View.ld_unit_zero z3, View.ld_unit_zero z2, View.ld_unit_zero z2, View.ld_unit_zero z2,
    View.ld_unit_zero z2, View.ld_unit_zero z2]
  obtain ⟨-, -, -, -, -, -, ⟨h0, h1, h2⟩⟩ := idx_facts t
  funext j
  obtain ⟨u, s, h, rfl⟩ : ∃ (u : Fin 1) (s h : Fin 1024), j = ix3 u s h := ⟨_, _, _, eq_ix3 j⟩
  refine (AffineBlock.pay_apply _ _ _ _ _ _ u s h).trans ?_
  have e : ((cfg0.win 6).blk t).view.read (Elt Ideal) (G m c) (ix3 u s h) = G m c (ix3 (batch t) (place t s) h) := by
    refine congrArg (G m c) (funext fun a => Fin.ext ?_)
    match a with
    | ⟨0, _⟩ => show win0_6.index t 0 * 1 + 1 * u.val = t.val % 4; have := u.isLt; omega
    | ⟨1, _⟩ => show win0_6.index t 1 * 1024 + 1 * s.val = t.val / 4 * 1024 + s.val; omega
    | ⟨2, _⟩ => show win0_6.index t 2 * 1024 + 1 * h.val = h.val; omega
  rw [e, RowNorm.twoPass_eq_affine, row_eq]
  exact congrArg₂ (fun g o => RowNorm.affine _ g o h) (funext fun k => block_g m c t k) (funext fun k => block_o m c t k)

/-- The blocks written back are the whole result. -/
theorem cover (i : S4x2048x1024.Idx) : ∃ t : Fin cfg0.N, (cfg0.win 6).flush t = true ∧ i ∈ ((cfg0.win 6).blk t).view.set := by
  have hi0 : (i 0 : Nat) < 4 := (i 0).isLt
  have hi1 : (i 1 : Nat) < 2048 := (i 1).isLt
  have hi2 : (i 2 : Nat) < 1024 := (i 2).isLt
  obtain ⟨t, ht⟩ : ∃ t : Fin cfg0.N, t.val = (i 1 : Nat) / 1024 * 4 + (i 0 : Nat) :=
    ⟨⟨(i 1 : Nat) / 1024 * 4 + (i 0 : Nat), lt_of_lt_of_eq (by omega : _ < 8) N_0.symm⟩, rfl⟩
  refine ⟨t, flush0_6 t, ?_⟩
  show i ∈ ((View.whole main_v0).slice (win0_6.rect t)).set
  rw [View.set_slice_whole, Rect.mem_set_unit]
  obtain ⟨-, -, -, -, -, -, ⟨h0, h1, h2⟩⟩ := idx_facts t
  intro a
  match a with
  | ⟨0, _⟩ => show win0_6.index t 0 * 1 ≤ (i 0 : Nat) ∧ (i 0 : Nat) < win0_6.index t 0 * 1 + 1; omega
  | ⟨1, _⟩ => show win0_6.index t 1 * 1024 ≤ (i 1 : Nat) ∧ (i 1 : Nat) < win0_6.index t 1 * 1024 + 1024; omega
  | ⟨2, _⟩ => show win0_6.index t 2 * 1024 ≤ (i 2 : Nat) ∧ (i 2 : Nat) < win0_6.index t 2 * 1024 + 1024; omega

/-- So the result array ends holding the reference's result. -/
theorem final (c : Dev nD) : (dats m 0 c).arrAt 6 cfg0.N = G m c :=
  (dats m 0 c).arrAt_eq_of_cover 6 (G m c) (fun t _ => flushed_eq m c t) cover

end Cert.AffineValue

end
-- ==== Proof.Precondition.lean ====
/-
  What the precondition says of the arguments, in the extended reals: the inputs, the weights and the positions are
  reals, the bias is zero, the gain is one and the offset is zero.

  The precondition is a function of the arrays that returns one bit per entry and asks for all ones: `|x| < ∞` of the
  first three kinds, an equality of the others.
-/
module

public import proofs.«01_k».proof.Proof.Gen.Pre_as_set_up
public import Idealize.ShloMosaic.Lib.IdealHost

@[expose] public section

noncomputable section

namespace Cert.Precondition

open Idealize.ShloMosaic

/-- The bit pattern of the largest exponent with no fraction is the upper end of the extended reals. -/
theorem infinity : Ideal.ofBits .f32 0x7F800000#32 = ⊤ := by
  simp [Ideal.ofBits, Ideal.ieee]

/-- An extended real whose absolute value is below the upper end is a real. -/
theorem real_of_abs_lt {x : EReal} (h : max x (-x) < ⊤) : ∃ r : ℝ, x = r := by
  induction x using EReal.rec with
  | bot => simp at h
  | top => simp at h
  | coe r => exact ⟨r, rfl⟩

/-- The comparison's bit is one where the comparison holds. -/
theorem lt_of_bit {x y : EReal} (h : BitVec.ofBool (decide (x < y)) = 1#1) : x < y := by
  by_contra hn
  simp [hn] at h

/-- Likewise of equality. -/
theorem eq_of_bit {x y : EReal} (h : BitVec.ofBool (decide (x = y)) = 1#1) : x = y := by
  by_contra hn
  simp [hn] at h

/-- The precondition's six parts, each at one entry. -/
theorem decode (x : FVec Ideal Pre_as_set_up.S4x2048x128 .f32) (W : FVec Ideal Pre_as_set_up.S128x1024 .f32)
    (b : FVec Ideal Pre_as_set_up.S1024 .f32) (p : FVec Ideal Pre_as_set_up.S2048x1024 .f32)
    (g o : FVec Ideal Pre_as_set_up.S1024 .f32)
    (h : (Pre_as_set_up.fn (F := Ideal) x W b p g o).1 = (fun _ => 1#1)
      ∧ (Pre_as_set_up.fn (F := Ideal) x W b p g o).2.1 = (fun _ => 1#1)
      ∧ (Pre_as_set_up.fn (F := Ideal) x W b p g o).2.2.1 = (fun _ => 1#1)
      ∧ (Pre_as_set_up.fn (F := Ideal) x W b p g o).2.2.2.1 = (fun _ => 1#1)
      ∧ (Pre_as_set_up.fn (F := Ideal) x W b p g o).2.2.2.2.1 = (fun _ => 1#1)
      ∧ (Pre_as_set_up.fn (F := Ideal) x W b p g o).2.2.2.2.2 = (fun _ => 1#1)) :
    (∀ i, ∃ r : ℝ, (x i : EReal) = r) ∧ (∀ i, ∃ r : ℝ, (W i : EReal) = r) ∧ (∀ i, (b i : EReal) = 0)
      ∧ (∀ i, ∃ r : ℝ, (p i : EReal) = r) ∧ (∀ i, (g i : EReal) = 1) ∧ ∀ i, (o i : EReal) = 0 := by
  obtain ⟨hx, hW, hb, hp, hg, ho⟩ := h
  refine ⟨fun i => real_of_abs_lt ((lt_of_bit (congrFun hx i)).trans_eq infinity),
    fun i => real_of_abs_lt ((lt_of_bit (congrFun hW i)).trans_eq infinity),
    fun i => (eq_of_bit (congrFun hb i)).trans Ideal.ofBits_zero_f32,
    fun i => real_of_abs_lt ((lt_of_bit (congrFun hp i)).trans_eq infinity),
    fun i => (eq_of_bit (congrFun hg i)).trans Ideal.ofBits_one_f32,
    fun i => (eq_of_bit (congrFun ho i)).trans Ideal.ofBits_zero_f32⟩

end Cert.Precondition

end
-- ==== Proof.lean ====
/-
  The proof of `Cert.Claim`: the two kernels, their idealizations and the idealized reference run to the end, leave their
  arguments and every semaphore as they found them, and each idealized kernel's result equals the idealized reference's.

  The runs are the generated ones. The values are joined in one function of the arguments, `Cert.Rows.result`:
  `Cert.RefValue.result_eq` says that the reference computes it, and `Cert.AffineValue.final` that the two-pass kernel does.
  `Cert.KernelValue.final` says what the one-pass kernel computes, and `Cert.KernelValue.onePassRows_eq_result` that under
  the precondition this is the same.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.Affine
public import proofs.«01_k».proof.Proof.Gen.Affine.Frame
public import proofs.«01_k».proof.Proof.Gen.AffineIdeal
public import proofs.«01_k».proof.Proof.Gen.AffineIdeal.Frame
public import proofs.«01_k».proof.Proof.Gen.AffineIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_as_set_up
public import proofs.«01_k».proof.Proof.RefValue
public import proofs.«01_k».proof.Proof.KernelValue
public import proofs.«01_k».proof.Proof.AffineValue
public import proofs.«01_k».proof.Proof.Precondition
public import Idealize.ShloMosaic.Lib.Quiescent
public import Idealize.ShloMosaic.Adequacy
public import Idealize.ShloMosaic.Init

@[expose] public section

noncomputable section

namespace Cert.Proof

open Idealize.ShloMosaic Idealize.SL.Sem

/-- The reference runs, keeps its arguments, and leaves every semaphore at zero. -/
theorem reference_frame : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run m ρ)

/-- Under the precondition the one-pass kernel's result is the reference's, entry by entry. -/
theorem equal_results : Cert.algebraic_KernelIdeal_ReferenceIdeal_pre_as_set_up (hKernelIdeal := Cert.KernelIdeal.Gen.facts)
    (hReferenceIdeal := Cert.ReferenceIdeal.Gen.facts) (hPre_as_set_up := Cert.Pre_as_set_up.Gen.facts) := by
  intro m ρ m' ρ' hpre hargs
  refine ⟨Cert.KernelValue.G m, ?_, ?_⟩
  · exact (θ_run Cert.KernelIdeal.defs _ _).mono
      (fun r h c => ⟨(h c).1.trans (Cert.KernelValue.final m c), (h c).2⟩) (Cert.KernelIdeal.Value.run_blocks m ρ)
  · refine (θ_run Cert.ReferenceIdeal.defs _ _).mono (fun r h c => ⟨(h c).1.trans ?_, (h c).2⟩)
      (Cert.ReferenceIdeal.Value.run m' ρ')
    obtain ⟨hx, hW, hb, hp, hg, ho⟩ := Cert.Precondition.decode _ _ _ _ _ _ (hpre c)
    obtain ⟨e0, e1, e2, e3, e4, e5⟩ := hargs c
    rw [Cert.ReferenceIdeal.Read.val_main_v32_eq, e0, e1, e2, e3, e4, e5, Cert.RefValue.result_eq]
    exact (Cert.KernelValue.onePassRows_eq_result hx hW hb hp hg ho).symm

/-- The two-pass kernel's result is the reference's, entry by entry, whatever the arguments. -/
theorem equal_results_affine : Cert.algebraic_AffineIdeal_ReferenceIdeal (hAffineIdeal := Cert.AffineIdeal.Gen.facts)
    (hReferenceIdeal := Cert.ReferenceIdeal.Gen.facts) := by
  intro m ρ m' ρ' _ hargs
  refine ⟨Cert.AffineValue.G m, ?_, ?_⟩
  · exact (θ_run Cert.AffineIdeal.defs _ _).mono
      (fun r h c => ⟨(h c).1.trans (Cert.AffineValue.final m c), (h c).2⟩) (Cert.AffineIdeal.Value.run_blocks m ρ)
  · refine (θ_run Cert.ReferenceIdeal.defs _ _).mono (fun r h c => ⟨(h c).1.trans ?_, (h c).2⟩)
      (Cert.ReferenceIdeal.Value.run m' ρ')
    obtain ⟨e0, e1, e2, e3, e4, e5⟩ := hargs c
    rw [Cert.ReferenceIdeal.Read.val_main_v32_eq, e0, e1, e2, e3, e4, e5, Cert.RefValue.result_eq]
    rfl

theorem claim : Cert.Claim :=
  ⟨Cert.Kernel.Gen.facts, Cert.KernelIdeal.Gen.facts, Cert.ReferenceIdeal.Gen.facts, Cert.Affine.Gen.facts,
    Cert.AffineIdeal.Gen.facts, Cert.Pre_as_set_up.Gen.facts,
    fun m ρ _ => Cert.Kernel.Gen.frame m ρ,
    fun m ρ _ => Cert.KernelIdeal.Gen.frame m ρ,
    fun m ρ _ => Cert.KernelIdeal.Gen.frame m ρ,
    reference_frame,
    fun m ρ _ => reference_frame m ρ trivial,
    fun m ρ _ => Cert.Affine.Gen.frame m ρ,
    fun m ρ _ => Cert.AffineIdeal.Gen.frame m ρ,
    trivial,
    equal_results,
    trivial,
    equal_results_affine⟩

end Cert.Proof

end
